-- ==== Defs.lean ====
def Pre_KernelIdeal (m : (ℓ : Loc Cert.KernelIdeal.nD Cert.KernelIdeal.τ Cert.KernelIdeal.sig) → Buf (Elt Ideal) ℓ) : Prop :=
  True

def Pre_KernelIdeal_nonneg_scores [hPre_nonneg_scores : Cert.Pre_nonneg_scores.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg_scores.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg_scores [hPre_nonneg_scores : Cert.Pre_nonneg_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg_scores.fn (F := Ideal) (m ((c.tc : Thread Cert.ReferenceIdeal.nD Cert.ReferenceIdeal.τ).loc Cert.ReferenceIdeal.main_arg0))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_nonneg_scores [hKernelIdeal : Cert.KernelIdeal.Facts] [hPre_nonneg_scores : Cert.Pre_nonneg_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_nonneg_scores [hReferenceIdeal : Cert.ReferenceIdeal.Facts] [hPre_nonneg_scores : Cert.Pre_nonneg_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def algebraic_KernelIdeal_ReferenceIdeal_pre_nonneg_scores [hKernelIdeal : Cert.KernelIdeal.Facts] [hReferenceIdeal : Cert.ReferenceIdeal.Facts] [hPre_nonneg_scores : Cert.Pre_nonneg_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernelIdeal : Cert.KernelIdeal.Facts) (hReferenceIdeal : Cert.ReferenceIdeal.Facts) (hPre_nonneg_scores : Cert.Pre_nonneg_scores.Facts),
    quiescent_KernelIdeal (hKernelIdeal := hKernelIdeal)
    ∧ quiescent_KernelIdeal_pre_nonneg_scores (hKernelIdeal := hKernelIdeal) (hPre_nonneg_scores := hPre_nonneg_scores)
    ∧ quiescent_ReferenceIdeal (hReferenceIdeal := hReferenceIdeal)
    ∧ quiescent_ReferenceIdeal_pre_nonneg_scores (hReferenceIdeal := hReferenceIdeal) (hPre_nonneg_scores := hPre_nonneg_scores)
    ∧ algebraic_KernelIdeal_ReferenceIdeal_pre_nonneg_scores (hKernelIdeal := hKernelIdeal) (hReferenceIdeal := hReferenceIdeal) (hPre_nonneg_scores := hPre_nonneg_scores)
-- ==== Pre_nonneg_scores.lean ====
abbrev S16x84x33600 : Shape := ⟨3, ![16, 84, 33600]⟩
abbrev S16x80x33600 : Shape := ⟨3, ![16, 80, 33600]⟩
abbrev S_ : Shape := ⟨0, ![]⟩

class Facts : Prop where
  slices_S16x84x33600_S16x80x33600_0_4_0 : S16x84x33600.Slices ![0, 4, 0] S16x80x33600
  bcast_S_S16x80x33600 : S_.BroadcastsInDim S16x80x33600 (![] : Fin 0 → Fin S16x80x33600.rank)
  reducesTo_S16x80x33600_S_d0_1_2 : S16x80x33600.ReducesTo [0, 1, 2] S_
  h_S_ : 0 < S_.numel

variable [Facts]

def fn {F : FTy → Type} [FloatOps F] (main_arg0 : FVec F S16x84x33600 .f32) : IVec S_ 1 :=
  let main_v0 : FVec F S16x80x33600 .f32 := (extractStridedSlice S16x80x33600 ![0, 4, 0] · slices_S16x84x33600_S16x80x33600_0_4_0) main_arg0
  let main_cst : FVec F S_ .f32 := constant S_ .f32 0x00000000#32
  let main_v1 : FVec F S16x80x33600 .f32 := broadcastInDim S16x80x33600 ![] bcast_S_S16x80x33600 main_cst
  let main_v2 : IVec S16x80x33600 1 := cmpf .oge main_v0 main_v1
  let main_c : IVec S_ 1 := constantI S_ 1 1#1
  let main_v3 : IVec S_ 1 := (fun x v => Host.reduce IntOp.andi x v reducesTo_S16x80x33600_S_d0_1_2 h_S_) main_v2 main_c
  main_v3
-- ==== KernelIdeal.lean ====
abbrev S16x84x33600 : Shape := ⟨3, ![16, 84, 33600]⟩
abbrev S16x4x33600 : Shape := ⟨3, ![16, 4, 33600]⟩
abbrev S16x80x33600 : Shape := ⟨3, ![16, 80, 33600]⟩
abbrev S_ : Shape := ⟨0, ![]⟩
abbrev S16x4x33792 : Shape := ⟨3, ![16, 4, 33792]⟩
abbrev S16x4x264x128 : Shape := ⟨4, ![16, 4, 264, 128]⟩
abbrev S16x80x33792 : Shape := ⟨3, ![16, 80, 33792]⟩
abbrev S16x80x264x128 : Shape := ⟨4, ![16, 80, 264, 128]⟩
abbrev S16x264x128 : Shape := ⟨3, ![16, 264, 128]⟩
abbrev S1x80x264x128 : Shape := ⟨4, ![1, 80, 264, 128]⟩
abbrev S1x264x128 : Shape := ⟨3, ![1, 264, 128]⟩
abbrev S80x264x128 : Shape := ⟨3, ![80, 264, 128]⟩
abbrev S264x128 : Shape := ⟨2, ![264, 128]⟩
abbrev S16x300x6 : Shape := ⟨3, ![16, 300, 6]⟩
abbrev S1x384 : Shape := ⟨2, ![1, 384]⟩
abbrev S1x128 : Shape := ⟨2, ![1, 128]⟩
abbrev S1x264 : Shape := ⟨2, ![1, 264]⟩
abbrev S264 : Shape := ⟨1, ![264]⟩
abbrev S1x1x264 : Shape := ⟨3, ![1, 1, 264]⟩
abbrev S1 : Shape := ⟨1, ![1]⟩
abbrev S1x1x1 : Shape := ⟨3, ![1, 1, 1]⟩
abbrev S1x1x128 : Shape := ⟨3, ![1, 1, 128]⟩
abbrev S384x384 : Shape := ⟨2, ![384, 384]⟩
abbrev S384x264 : Shape := ⟨2, ![384, 264]⟩
abbrev S384x128 : Shape := ⟨2, ![384, 128]⟩
abbrev S384x6 : Shape := ⟨2, ![384, 6]⟩
abbrev S384 : Shape := ⟨1, ![384]⟩
abbrev S384x1 : Shape := ⟨2, ![384, 1]⟩
abbrev S1x1x264x128 : Shape := ⟨4, ![1, 1, 264, 128]⟩
abbrev S1x1x384 : Shape := ⟨3, ![1, 1, 384]⟩
abbrev S300x6 : Shape := ⟨2, ![300, 6]⟩
abbrev S1x300x6 : Shape := ⟨3, ![1, 300, 6]⟩

abbrev nBuf : Space → Nat
  | .hbm => 14
  | .vmem => 26
  | .smem => 0
  | _ => 0

abbrev bufTy : (tb : Table) → Fin (tcTables nBuf tb) → BufTy
  | .hbm, ⟨0, _⟩ => ⟨S16x84x33600, .f32⟩
  | .hbm, ⟨1, _⟩ => ⟨S16x4x33600, .f32⟩
  | .hbm, ⟨2, _⟩ => ⟨S16x80x33600, .f32⟩
  | .hbm, ⟨3, _⟩ => ⟨S_, .i32⟩
  | .hbm, ⟨4, _⟩ => ⟨S_, .f32⟩
  | .hbm, ⟨5, _⟩ => ⟨S16x4x33792, .f32⟩
  | .hbm, ⟨6, _⟩ => ⟨S16x4x264x128, .f32⟩
  | .hbm, ⟨7, _⟩ => ⟨S_, .f32⟩
  | .hbm, ⟨8, _⟩ => ⟨S_, .f32⟩
  | .hbm, ⟨9, _⟩ => ⟨S16x80x33792, .f32⟩
  | .hbm, ⟨10, _⟩ => ⟨S16x80x264x128, .f32⟩
  | .hbm, ⟨11, _⟩ => ⟨S16x264x128, .f32⟩
  | .hbm, ⟨12, _⟩ => ⟨S16x264x128, .f32⟩
  | .hbm, ⟨13, _⟩ => ⟨S16x300x6, .f32⟩
  | .local _ .vmem, ⟨0, _⟩ => ⟨S1x80x264x128, .f32⟩
  | .local _ .vmem, ⟨1, _⟩ => ⟨S1x80x264x128, .f32⟩
  | .local _ .vmem, ⟨2, _⟩ => ⟨S1x264x128, .f32⟩
  | .local _ .vmem, ⟨3, _⟩ => ⟨S1x264x128, .f32⟩
  | .local _ .vmem, ⟨4, _⟩ => ⟨S1x264x128, .f32⟩
  | .local _ .vmem, ⟨5, _⟩ => ⟨S1x264x128, .f32⟩
  | .local _ .vmem, ⟨6, _⟩ => ⟨S16x264x128, .f32⟩
  | .local _ .vmem, ⟨7, _⟩ => ⟨S16x264x128, .f32⟩
  | .local _ .vmem, ⟨8, _⟩ => ⟨S16x4x264x128, .f32⟩
  | .local _ .vmem, ⟨9, _⟩ => ⟨S16x300x6, .f32⟩
  | .local _ .vmem, ⟨10, _⟩ => ⟨S264x128, .f32⟩
  | .local _ .vmem, ⟨11, _⟩ => ⟨S264x128, .f32⟩
  | .local _ .vmem, ⟨12, _⟩ => ⟨S264x128, .f32⟩
  | .local _ .vmem, ⟨13, _⟩ => ⟨S264x128, .f32⟩
  | .local _ .vmem, ⟨14, _⟩ => ⟨S264x128, .f32⟩
  | .local _ .vmem, ⟨15, _⟩ => ⟨S264x128, .f32⟩
  | .local _ .vmem, ⟨16, _⟩ => ⟨S264x128, .f32⟩
  | .local _ .vmem, ⟨17, _⟩ => ⟨S264x128, .f32⟩
  | .local _ .vmem, ⟨18, _⟩ => ⟨S264x128, .f32⟩
  | .local _ .vmem, ⟨19, _⟩ => ⟨S264x128, .f32⟩
  | .local _ .vmem, ⟨20, _⟩ => ⟨S264x128, .f32⟩
  | .local _ .vmem, ⟨21, _⟩ => ⟨S264x128, .f32⟩
  | .local _ .vmem, ⟨22, _⟩ => ⟨S264x128, .f32⟩
  | .local _ .vmem, ⟨23, _⟩ => ⟨S264x128, .f32⟩
  | .local _ .vmem, ⟨24, _⟩ => ⟨S264x128, .f32⟩
  | .local _ .vmem, ⟨25, _⟩ => ⟨S264x128, .f32⟩
  | _, _ => ⟨S16x84x33600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_call1_v0 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_scratch0 : Ref sig .tc := ⟨.vmem, 10, rfl⟩
abbrev cc1_scratch1 : Ref sig .tc := ⟨.vmem, 11, rfl⟩
abbrev cc1_scratch2 : Ref sig .tc := ⟨.vmem, 12, rfl⟩
abbrev cc1_scratch3 : Ref sig .tc := ⟨.vmem, 13, rfl⟩
abbrev cc1_scratch4 : Ref sig .tc := ⟨.vmem, 14, rfl⟩
abbrev cc1_scratch5 : Ref sig .tc := ⟨.vmem, 15, rfl⟩
abbrev cc1_scratch6 : Ref sig .tc := ⟨.vmem, 16, rfl⟩
abbrev cc1_scratch7 : Ref sig .tc := ⟨.vmem, 17, rfl⟩
abbrev cc1_scratch8 : Ref sig .tc := ⟨.vmem, 18, rfl⟩
abbrev cc1_scratch9 : Ref sig .tc := ⟨.vmem, 19, rfl⟩
abbrev cc1_scratch10 : Ref sig .tc := ⟨.vmem, 20, rfl⟩
abbrev cc1_scratch11 : Ref sig .tc := ⟨.vmem, 21, rfl⟩
abbrev cc1_scratch12 : Ref sig .tc := ⟨.vmem, 22, rfl⟩
abbrev cc1_scratch13 : Ref sig .tc := ⟨.vmem, 23, rfl⟩
abbrev cc1_scratch14 : Ref sig .tc := ⟨.vmem, 24, rfl⟩
abbrev cc1_scratch15 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x80x264x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x264x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x264x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := .none

@[reducible] def k1_t1_loop : Scf.Loop 32 :=
  let c0_i32_112 : BitVec 32 := 0#32
  let c300_i32 : BitVec 32 := 300#32
  let v133 : BitVec 32 := Scalar.addi c0_i32_112 c300_i32
  let c1_i32 : BitVec 32 := 1#32
  ⟨c0_i32_112, v133, c1_i32⟩
def k1_off1 (v3307 : BitVec 32) : Fin 2 → Nat :=
  let v3308 : Index := Scalar.indexCast v3307
  let c0_1408 : Index := 0#32
  ![v3308.toNat, 0]

def k1_chk1 (v3307 : BitVec 32) : Prop :=
  (∀ a, (k1_off1 v3307) a + S1x128.size a ≤ S264x128.size a)
theorem k1_off1_inb : ∀ (v3307 : BitVec 32) (k1_hw1 : k1_chk1 v3307), ∀ a, (k1_off1 v3307) a + S1x128.size a ≤ S264x128.size a := fun v3307 k1_hw1 => k1_hw1

def k1_off2 (v3351 : BitVec 32) : Fin 2 → Nat :=
  let v3352 : Index := Scalar.indexCast v3351
  let c0_1417 : Index := 0#32
  ![v3352.toNat, 0]

def k1_chk2 (v3351 : BitVec 32) : Prop :=
  (∀ a, (k1_off2 v3351) a + S1x128.size a ≤ S264x128.size a)
theorem k1_off2_inb : ∀ (v3351 : BitVec 32) (k1_hw2 : k1_chk2 v3351), ∀ a, (k1_off2 v3351) a + S1x128.size a ≤ S264x128.size a := fun v3351 k1_hw2 => k1_hw2

def k1_off3 (v3395 : BitVec 32) : Fin 2 → Nat :=
  let v3396 : Index := Scalar.indexCast v3395
  let c0_1426 : Index := 0#32
  ![v3396.toNat, 0]

def k1_chk3 (v3395 : BitVec 32) : Prop :=
  (∀ a, (k1_off3 v3395) a + S1x128.size a ≤ S264x128.size a)
theorem k1_off3_inb : ∀ (v3395 : BitVec 32) (k1_hw3 : k1_chk3 v3395), ∀ a, (k1_off3 v3395) a + S1x128.size a ≤ S264x128.size a := fun v3395 k1_hw3 => k1_hw3

def k1_off4 (v3439 : BitVec 32) : Fin 2 → Nat :=
  let v3440 : Index := Scalar.indexCast v3439
  let c0_1435 : Index := 0#32
  ![v3440.toNat, 0]

def k1_chk4 (v3439 : BitVec 32) : Prop :=
  (∀ a, (k1_off4 v3439) a + S1x128.size a ≤ S264x128.size a)
theorem k1_off4_inb : ∀ (v3439 : BitVec 32) (k1_hw4 : k1_chk4 v3439), ∀ a, (k1_off4 v3439) a + S1x128.size a ≤ S264x128.size a := fun v3439 k1_hw4 => k1_hw4

def k1_off5 (v3483 : BitVec 32) : Fin 2 → Nat :=
  let v3484 : Index := Scalar.indexCast v3483
  let c0_1444 : Index := 0#32
  ![v3484.toNat, 0]

def k1_chk5 (v3483 : BitVec 32) : Prop :=
  (∀ a, (k1_off5 v3483) a + S1x128.size a ≤ S264x128.size a)
theorem k1_off5_inb : ∀ (v3483 : BitVec 32) (k1_hw5 : k1_chk5 v3483), ∀ a, (k1_off5 v3483) a + S1x128.size a ≤ S264x128.size a := fun v3483 k1_hw5 => k1_hw5

def k1_off6 (v3527 : BitVec 32) : Fin 2 → Nat :=
  let v3528 : Index := Scalar.indexCast v3527
  let c0_1453 : Index := 0#32
  ![v3528.toNat, 0]

def k1_chk6 (v3527 : BitVec 32) : Prop :=
  (∀ a, (k1_off6 v3527) a + S1x128.size a ≤ S264x128.size a)
theorem k1_off6_inb : ∀ (v3527 : BitVec 32) (k1_hw6 : k1_chk6 v3527), ∀ a, (k1_off6 v3527) a + S1x128.size a ≤ S264x128.size a := fun v3527 k1_hw6 => k1_hw6

def k1_off7 (v3571 : BitVec 32) : Fin 2 → Nat :=
  let v3572 : Index := Scalar.indexCast v3571
  let c0_1462 : Index := 0#32
  ![v3572.toNat, 0]

def k1_chk7 (v3571 : BitVec 32) : Prop :=
  (∀ a, (k1_off7 v3571) a + S1x128.size a ≤ S264x128.size a)
theorem k1_off7_inb : ∀ (v3571 : BitVec 32) (k1_hw7 : k1_chk7 v3571), ∀ a, (k1_off7 v3571) a + S1x128.size a ≤ S264x128.size a := fun v3571 k1_hw7 => k1_hw7

def k1_off8 (v3615 : BitVec 32) : Fin 2 → Nat :=
  let v3616 : Index := Scalar.indexCast v3615
  let c0_1471 : Index := 0#32
  ![v3616.toNat, 0]

def k1_chk8 (v3615 : BitVec 32) : Prop :=
  (∀ a, (k1_off8 v3615) a + S1x128.size a ≤ S264x128.size a)
theorem k1_off8_inb : ∀ (v3615 : BitVec 32) (k1_hw8 : k1_chk8 v3615), ∀ a, (k1_off8 v3615) a + S1x128.size a ≤ S264x128.size a := fun v3615 k1_hw8 => k1_hw8

def k1_off9 (v3659 : BitVec 32) : Fin 2 → Nat :=
  let v3660 : Index := Scalar.indexCast v3659
  let c0_1480 : Index := 0#32
  ![v3660.toNat, 0]

def k1_chk9 (v3659 : BitVec 32) : Prop :=
  (∀ a, (k1_off9 v3659) a + S1x128.size a ≤ S264x128.size a)
theorem k1_off9_inb : ∀ (v3659 : BitVec 32) (k1_hw9 : k1_chk9 v3659), ∀ a, (k1_off9 v3659) a + S1x128.size a ≤ S264x128.size a := fun v3659 k1_hw9 => k1_hw9

def k1_off10 (v3703 : BitVec 32) : Fin 2 → Nat :=
  let v3704 : Index := Scalar.indexCast v3703
  let c0_1489 : Index := 0#32
  ![v3704.toNat, 0]

def k1_chk10 (v3703 : BitVec 32) : Prop :=
  (∀ a, (k1_off10 v3703) a + S1x128.size a ≤ S264x128.size a)
theorem k1_off10_inb : ∀ (v3703 : BitVec 32) (k1_hw10 : k1_chk10 v3703), ∀ a, (k1_off10 v3703) a + S1x128.size a ≤ S264x128.size a := fun v3703 k1_hw10 => k1_hw10

def k1_off11 (v3747 : BitVec 32) : Fin 2 → Nat :=
  let v3748 : Index := Scalar.indexCast v3747
  let c0_1498 : Index := 0#32
  ![v3748.toNat, 0]

def k1_chk11 (v3747 : BitVec 32) : Prop :=
  (∀ a, (k1_off11 v3747) a + S1x128.size a ≤ S264x128.size a)
theorem k1_off11_inb : ∀ (v3747 : BitVec 32) (k1_hw11 : k1_chk11 v3747), ∀ a, (k1_off11 v3747) a + S1x128.size a ≤ S264x128.size a := fun v3747 k1_hw11 => k1_hw11

def k1_off12 (v3791 : BitVec 32) : Fin 2 → Nat :=
  let v3792 : Index := Scalar.indexCast v3791
  let c0_1507 : Index := 0#32
  ![v3792.toNat, 0]

def k1_chk12 (v3791 : BitVec 32) : Prop :=
  (∀ a, (k1_off12 v3791) a + S1x128.size a ≤ S264x128.size a)
theorem k1_off12_inb : ∀ (v3791 : BitVec 32) (k1_hw12 : k1_chk12 v3791), ∀ a, (k1_off12 v3791) a + S1x128.size a ≤ S264x128.size a := fun v3791 k1_hw12 => k1_hw12

def k1_off13 (v3835 : BitVec 32) : Fin 2 → Nat :=
  let v3836 : Index := Scalar.indexCast v3835
  let c0_1516 : Index := 0#32
  ![v3836.toNat, 0]

def k1_chk13 (v3835 : BitVec 32) : Prop :=
  (∀ a, (k1_off13 v3835) a + S1x128.size a ≤ S264x128.size a)
theorem k1_off13_inb : ∀ (v3835 : BitVec 32) (k1_hw13 : k1_chk13 v3835), ∀ a, (k1_off13 v3835) a + S1x128.size a ≤ S264x128.size a := fun v3835 k1_hw13 => k1_hw13

def k1_off14 (v3879 : BitVec 32) : Fin 2 → Nat :=
  let v3880 : Index := Scalar.indexCast v3879
  let c0_1525 : Index := 0#32
  ![v3880.toNat, 0]

def k1_chk14 (v3879 : BitVec 32) : Prop :=
  (∀ a, (k1_off14 v3879) a + S1x128.size a ≤ S264x128.size a)
theorem k1_off14_inb : ∀ (v3879 : BitVec 32) (k1_hw14 : k1_chk14 v3879), ∀ a, (k1_off14 v3879) a + S1x128.size a ≤ S264x128.size a := fun v3879 k1_hw14 => k1_hw14

def k1_off15 (v3923 : BitVec 32) : Fin 2 → Nat :=
  let v3924 : Index := Scalar.indexCast v3923
  let c0_1534 : Index := 0#32
  ![v3924.toNat, 0]

def k1_chk15 (v3923 : BitVec 32) : Prop :=
  (∀ a, (k1_off15 v3923) a + S1x128.size a ≤ S264x128.size a)
theorem k1_off15_inb : ∀ (v3923 : BitVec 32) (k1_hw15 : k1_chk15 v3923), ∀ a, (k1_off15 v3923) a + S1x128.size a ≤ S264x128.size a := fun v3923 k1_hw15 => k1_hw15

def k1_off16 (v3967 : BitVec 32) : Fin 2 → Nat :=
  let v3968 : Index := Scalar.indexCast v3967
  let c0_1543 : Index := 0#32
  ![v3968.toNat, 0]

def k1_chk16 (v3967 : BitVec 32) : Prop :=
  (∀ a, (k1_off16 v3967) a + S1x128.size a ≤ S264x128.size a)
theorem k1_off16_inb : ∀ (v3967 : BitVec 32) (k1_hw16 : k1_chk16 v3967), ∀ a, (k1_off16 v3967) a + S1x128.size a ≤ S264x128.size a := fun v3967 k1_hw16 => k1_hw16

abbrev stage1_0 : Fin 1 → Memref sig .tc .vmem S16x264x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x264x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S16x4x264x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S16x300x6 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== ReferenceIdeal.lean ====
abbrev S16x84x33600 : Shape := ⟨3, ![16, 84, 33600]⟩
abbrev S16x33600x84 : Shape := ⟨3, ![16, 33600, 84]⟩
abbrev S16x33600x4 : Shape := ⟨3, ![16, 33600, 4]⟩
abbrev S16x33600x80 : Shape := ⟨3, ![16, 33600, 80]⟩
abbrev S_ : Shape := ⟨0, ![]⟩
abbrev S16x33600 : Shape := ⟨2, ![16, 33600]⟩
abbrev S16x300 : Shape := ⟨2, ![16, 300]⟩
abbrev S16x300x1 : Shape := ⟨3, ![16, 300, 1]⟩
abbrev S1 : Shape := ⟨1, ![1]⟩
abbrev S1x1x1 : Shape := ⟨3, ![1, 1, 1]⟩
abbrev S16x300x4 : Shape := ⟨3, ![16, 300, 4]⟩
abbrev S16x300x80 : Shape := ⟨3, ![16, 300, 80]⟩
abbrev S16x300x2 : Shape := ⟨3, ![16, 300, 2]⟩
abbrev S16x300x1x2 : Shape := ⟨4, ![16, 300, 1, 2]⟩
abbrev S16x1x300x2 : Shape := ⟨4, ![16, 1, 300, 2]⟩
abbrev S16x300x300x2 : Shape := ⟨4, ![16, 300, 300, 2]⟩
abbrev S16x300x300x1 : Shape := ⟨4, ![16, 300, 300, 1]⟩
abbrev S16x300x300 : Shape := ⟨3, ![16, 300, 300]⟩
abbrev S16x1x300 : Shape := ⟨3, ![16, 1, 300]⟩
abbrev S300 : Shape := ⟨1, ![300]⟩
abbrev S16x1 : Shape := ⟨2, ![16, 1]⟩
abbrev S1x300 : Shape := ⟨2, ![1, 300]⟩
abbrev S16x300x6 : Shape := ⟨3, ![16, 300, 6]⟩

abbrev nBuf : Space → Nat
  | .hbm => 205
  | .vmem => 0
  | .smem => 0
  | _ => 0

abbrev hbmTy0_0 (i : Nat) : BufTy := match i % 128 with
  | 0 => ⟨S16x84x33600, .f32⟩
  | 1 => ⟨S16x33600x84, .f32⟩
  | 2 => ⟨S16x33600x4, .f32⟩
  | 3 => ⟨S16x33600x80, .f32⟩
  | 4 => ⟨S_, .f32⟩
  | 5 => ⟨S16x33600, .f32⟩
  | 6 => ⟨S16x300, .f32⟩
  | 7 => ⟨S16x300, .i32⟩
  | 8 => ⟨S16x300x1, .i32⟩
  | 9 => ⟨S_, .i32⟩
  | 10 => ⟨S16x300x1, .i32⟩
  | 11 => ⟨S16x300x1, .i1⟩
  | 12 => ⟨S_, .i32⟩
  | 13 => ⟨S16x300x1, .i32⟩
  | 14 => ⟨S16x300x1, .i32⟩
  | 15 => ⟨S16x300x1, .i32⟩
  | 16 => ⟨S1, .i32⟩
  | 17 => ⟨S_, .i32⟩
  | 18 => ⟨S16x300x1, .i32⟩
  | 19 => ⟨S16x300x1, .i1⟩
  | 20 => ⟨S1x1x1, .i32⟩
  | 21 => ⟨S16x300x1, .i32⟩
  | 22 => ⟨S16x300x1, .i1⟩
  | 23 => ⟨S16x300x1, .i1⟩
  | 24 => ⟨S_, .i1⟩
  | 25 => ⟨S16x300, .i1⟩
  | 26 => ⟨S16x300x4, .f32⟩
  | 27 => ⟨S16x300x4, .i1⟩
  | 28 => ⟨S_, .f32⟩
  | 29 => ⟨S16x300x4, .f32⟩
  | 30 => ⟨S16x300x4, .f32⟩
  | 31 => ⟨S16x300x1, .i32⟩
  | 32 => ⟨S_, .i32⟩
  | 33 => ⟨S16x300x1, .i32⟩
  | 34 => ⟨S16x300x1, .i1⟩
  | 35 => ⟨S_, .i32⟩
  | 36 => ⟨S16x300x1, .i32⟩
  | 37 => ⟨S16x300x1, .i32⟩
  | 38 => ⟨S16x300x1, .i32⟩
  | 39 => ⟨S1, .i32⟩
  | 40 => ⟨S_, .i32⟩
  | 41 => ⟨S16x300x1, .i32⟩
  | 42 => ⟨S16x300x1, .i1⟩
  | 43 => ⟨S1x1x1, .i32⟩
  | 44 => ⟨S16x300x1, .i32⟩
  | 45 => ⟨S16x300x1, .i1⟩
  | 46 => ⟨S16x300x1, .i1⟩
  | 47 => ⟨S_, .i1⟩
  | 48 => ⟨S16x300, .i1⟩
  | 49 => ⟨S16x300x80, .f32⟩
  | 50 => ⟨S16x300x80, .i1⟩
  | 51 => ⟨S_, .f32⟩
  | 52 => ⟨S16x300x80, .f32⟩
  | 53 => ⟨S16x300x80, .f32⟩
  | 54 => ⟨S_, .f32⟩
  | 55 => ⟨S16x300, .f32⟩
  | 56 => ⟨S16x300x80, .i32⟩
  | 57 => ⟨S_, .f32⟩
  | 58 => ⟨S_, .i32⟩
  | 59 => ⟨S16x300, .f32⟩
  | 60 => ⟨S16x300, .i32⟩
  | 61 => ⟨S16x300, .f32⟩
  | 62 => ⟨S16x300x1, .f32⟩
  | 63 => ⟨S16x300, .f32⟩
  | 64 => ⟨S16x300x1, .f32⟩
  | 65 => ⟨S16x300, .f32⟩
  | 66 => ⟨S16x300x1, .f32⟩
  | 67 => ⟨S16x300, .f32⟩
  | 68 => ⟨S16x300x1, .f32⟩
  | 69 => ⟨S16x300, .f32⟩
  | 70 => ⟨S_, .f32⟩
  | 71 => ⟨S16x300, .f32⟩
  | 72 => ⟨S16x300, .f32⟩
  | 73 => ⟨S16x300, .f32⟩
  | 74 => ⟨S_, .f32⟩
  | 75 => ⟨S16x300, .f32⟩
  | 76 => ⟨S16x300, .f32⟩
  | 77 => ⟨S16x300, .f32⟩
  | 78 => ⟨S_, .f32⟩
  | 79 => ⟨S16x300, .f32⟩
  | 80 => ⟨S16x300, .f32⟩
  | 81 => ⟨S16x300, .f32⟩
  | 82 => ⟨S_, .f32⟩
  | 83 => ⟨S16x300, .f32⟩
  | 84 => ⟨S16x300, .f32⟩
  | 85 => ⟨S16x300, .f32⟩
  | 86 => ⟨S16x300x1, .f32⟩
  | 87 => ⟨S16x300x1, .f32⟩
  | 88 => ⟨S16x300x1, .f32⟩
  | 89 => ⟨S16x300x1, .f32⟩
  | 90 => ⟨S16x300x4, .f32⟩
  | 91 => ⟨S16x300x1, .f32⟩
  | 92 => ⟨S16x300, .f32⟩
  | 93 => ⟨S16x300x1, .f32⟩
  | 94 => ⟨S16x300, .f32⟩
  | 95 => ⟨S16x300, .f32⟩
  | 96 => ⟨S16x300x1, .f32⟩
  | 97 => ⟨S16x300, .f32⟩
  | 98 => ⟨S16x300x1, .f32⟩
  | 99 => ⟨S16x300, .f32⟩
  | 100 => ⟨S16x300, .f32⟩
  | 101 => ⟨S16x300, .f32⟩
  | 102 => ⟨S16x300x1, .f32⟩
  | 103 => ⟨S16x300, .f32⟩
  | 104 => ⟨S16x300x1, .f32⟩
  | 105 => ⟨S16x300, .f32⟩
  | 106 => ⟨S16x300, .f32⟩
  | 107 => ⟨S16x300x1, .f32⟩
  | 108 => ⟨S16x300, .f32⟩
  | 109 => ⟨S16x300x1, .f32⟩
  | 110 => ⟨S16x300, .f32⟩
  | 111 => ⟨S16x300, .f32⟩
  | 112 => ⟨S16x300, .f32⟩
  | 113 => ⟨S16x300x2, .f32⟩
  | 114 => ⟨S16x300x1x2, .f32⟩
  | 115 => ⟨S16x300x2, .f32⟩
  | 116 => ⟨S16x1x300x2, .f32⟩
  | 117 => ⟨S16x300x300x2, .f32⟩
  | 118 => ⟨S16x300x300x2, .f32⟩
  | 119 => ⟨S16x300x300x2, .f32⟩
  | 120 => ⟨S16x300x2, .f32⟩
  | 121 => ⟨S16x300x1x2, .f32⟩
  | 122 => ⟨S16x300x2, .f32⟩
  | 123 => ⟨S16x1x300x2, .f32⟩
  | 124 => ⟨S16x300x300x2, .f32⟩
  | 125 => ⟨S16x300x300x2, .f32⟩
  | 126 => ⟨S16x300x300x2, .f32⟩
  | 127 => ⟨S16x300x300x2, .f32⟩
  | _ => ⟨S16x84x33600, .f32⟩

abbrev hbmTy0_1 (i : Nat) : BufTy := match i % 128 with
  | 0 => ⟨S_, .f32⟩
  | 1 => ⟨S_, .f32⟩
  | 2 => ⟨S16x300x300x2, .f32⟩
  | 3 => ⟨S16x300x300x2, .f32⟩
  | 4 => ⟨S16x300x300x1, .f32⟩
  | 5 => ⟨S16x300x300, .f32⟩
  | 6 => ⟨S16x300x300x1, .f32⟩
  | 7 => ⟨S16x300x300, .f32⟩
  | 8 => ⟨S16x300x300, .f32⟩
  | 9 => ⟨S16x300x1, .f32⟩
  | 10 => ⟨S16x1x300, .f32⟩
  | 11 => ⟨S16x300x300, .f32⟩
  | 12 => ⟨S16x300x300, .f32⟩
  | 13 => ⟨S16x300x300, .f32⟩
  | 14 => ⟨S16x300x300, .f32⟩
  | 15 => ⟨S_, .f32⟩
  | 16 => ⟨S16x300x300, .f32⟩
  | 17 => ⟨S16x300x300, .f32⟩
  | 18 => ⟨S16x300x300, .f32⟩
  | 19 => ⟨S300, .i32⟩
  | 20 => ⟨S_, .i1⟩
  | 21 => ⟨S16x300, .i1⟩
  | 22 => ⟨S_, .i32⟩
  | 23 => ⟨S_, .i32⟩
  | 24 => ⟨S16x300x300, .f32⟩
  | 25 => ⟨S300, .i32⟩
  | 26 => ⟨S_, .i32⟩
  | 27 => ⟨S_, .i32⟩
  | 28 => ⟨S16x300, .i1⟩
  | 29 => ⟨S_, .i32⟩
  | 30 => ⟨S_, .i1⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S16x1x300, .f32⟩
  | 42 => ⟨S16x300, .f32⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S_, .i32⟩
  | 50 => ⟨S16x1, .i1⟩
  | 51 => ⟨S_, .f32⟩
  | 52 => ⟨S16x300, .f32⟩
  | 53 => ⟨S16x300, .i1⟩
  | 54 => ⟨S16x300, .i1⟩
  | 55 => ⟨S16x300, .i1⟩
  | 56 => ⟨S_, .i32⟩
  | 57 => ⟨S300, .i32⟩
  | 58 => ⟨S300, .i1⟩
  | 59 => ⟨S1x300, .i1⟩
  | 60 => ⟨S16x300, .i1⟩
  | 61 => ⟨S16x300, .i1⟩
  | 62 => ⟨S16x300, .i1⟩
  | 63 => ⟨S16x300, .i1⟩
  | 64 => ⟨S_, .i32⟩
  | 65 => ⟨S_, .i32⟩
  | 66 => ⟨S_, .f32⟩
  | 67 => ⟨S16x300, .f32⟩
  | 68 => ⟨S16x300, .i1⟩
  | 69 => ⟨S16x300, .i1⟩
  | 70 => ⟨S_, .f32⟩
  | 71 => ⟨S_, .f32⟩
  | 72 => ⟨S16x300, .f32⟩
  | 73 => ⟨S16x300, .f32⟩
  | 74 => ⟨S16x300x1, .f32⟩
  | 75 => ⟨S16x300x1, .f32⟩
  | 76 => ⟨S16x300x6, .f32⟩
  | _ => ⟨S16x84x33600, .f32⟩

abbrev hbmTy (i : Nat) : BufTy := match i / 128 with
  | 0 => hbmTy0_0 i
  | 1 => hbmTy0_1 i
  | _ => ⟨S16x84x33600, .f32⟩

abbrev bufTy : (tb : Table) → Fin (tcTables nBuf tb) → BufTy
  | .hbm, ⟨i, _⟩ => hbmTy i
  | _, _ => ⟨S16x84x33600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_values : Ref sig .tc := ⟨.hbm, 6, rfl⟩
abbrev main_indices : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_c_2 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_c_3 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v5 : Ref sig .tc := ⟨.hbm, 30, rfl⟩
abbrev main_v6 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_1 : Ref sig .tc := ⟨.hbm, 39, rfl⟩
abbrev main_call1_c_2 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_c_3 : Ref sig .tc := ⟨.hbm, 47, rfl⟩
abbrev main_call1_v11 : Ref sig .tc := ⟨.hbm, 48, rfl⟩
abbrev main_call1_v12 : Ref sig .tc := ⟨.hbm, 49, rfl⟩
abbrev main_call1_v13 : Ref sig .tc := ⟨.hbm, 50, rfl⟩
abbrev main_call1_cst : Ref sig .tc := ⟨.hbm, 51, rfl⟩
abbrev main_call1_v14 : Ref sig .tc := ⟨.hbm, 52, rfl⟩
abbrev main_v7 : Ref sig .tc := ⟨.hbm, 53, rfl⟩
abbrev main_cst_0 : Ref sig .tc := ⟨.hbm, 54, rfl⟩
abbrev main_v8 : Ref sig .tc := ⟨.hbm, 55, rfl⟩
abbrev main_call2_v0 : Ref sig .tc := ⟨.hbm, 56, rfl⟩
abbrev main_call2_cst : Ref sig .tc := ⟨.hbm, 57, rfl⟩
abbrev main_call2_c : Ref sig .tc := ⟨.hbm, 58, rfl⟩
abbrev main_call2_v1_0 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_cst_1 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_cst_2 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_cst_3 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_cst_4 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_cst_5 : Ref sig .tc := ⟨.hbm, 128, rfl⟩
abbrev main_call3_v0 : Ref sig .tc := ⟨.hbm, 129, rfl⟩
abbrev main_call3_v1 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_cst_6 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_c : Ref sig .tc := ⟨.hbm, 148, rfl⟩
abbrev main_v89 : Ref sig .tc := ⟨.hbm, 149, rfl⟩
abbrev main_c_7 : Ref sig .tc := ⟨.hbm, 150, rfl⟩
abbrev main_c_8 : Ref sig .tc := ⟨.hbm, 151, rfl⟩
abbrev main_v90_0 : Ref sig .tc := ⟨.hbm, 152, rfl⟩
abbrev main_v90_1 : Ref sig .tc := ⟨.hbm, 153, rfl⟩
abbrev main_v90_2 : Ref sig .tc := ⟨.hbm, 154, rfl⟩
abbrev main_v90_3 : Ref sig .tc := ⟨.hbm, 155, rfl⟩
abbrev main_v90_4 : Ref sig .tc := ⟨.hbm, 156, rfl⟩
abbrev main_while0c_c_15 : Ref sig .tc := ⟨.hbm, 157, rfl⟩
abbrev main_while0c_v98 : Ref sig .tc := ⟨.hbm, 158, rfl⟩
abbrev main_while0b_c_15 : Ref sig .tc := ⟨.hbm, 159, rfl⟩
abbrev main_while0b_v98 : Ref sig .tc := ⟨.hbm, 160, rfl⟩
abbrev main_while0b_call4_c : Ref sig .tc := ⟨.hbm, 161, rfl⟩
abbrev main_while0b_call4_v0 : Ref sig .tc := ⟨.hbm, 162, rfl⟩
abbrev main_while0b_call4_v1 : Ref sig .tc := ⟨.hbm, 163, rfl⟩
abbrev main_while0b_call4_c_0 : Ref sig .tc := ⟨.hbm, 164, rfl⟩
abbrev main_while0b_call4_v2 : Ref sig .tc := ⟨.hbm, 165, rfl⟩
abbrev main_while0b_call4_v3 : Ref sig .tc := ⟨.hbm, 166, rfl⟩
abbrev main_while0b_call4_c_1 : Ref sig .tc := ⟨.hbm, 167, rfl⟩
abbrev main_while0b_call4_c_2 : Ref sig .tc := ⟨.hbm, 168, rfl⟩
abbrev main_while0b_call4_v4 : Ref sig .tc := ⟨.hbm, 169, rfl⟩
abbrev main_while0b_v99 : Ref sig .tc := ⟨.hbm, 170, rfl⟩
abbrev main_while0b_call5_c : Ref sig .tc := ⟨.hbm, 171, rfl⟩
abbrev main_while0b_call5_v0 : Ref sig .tc := ⟨.hbm, 172, rfl⟩
abbrev main_while0b_call5_v1 : Ref sig .tc := ⟨.hbm, 173, rfl⟩
abbrev main_while0b_call5_c_0 : Ref sig .tc := ⟨.hbm, 174, rfl⟩
abbrev main_while0b_call5_v2 : Ref sig .tc := ⟨.hbm, 175, rfl⟩
abbrev main_while0b_call5_v3 : Ref sig .tc := ⟨.hbm, 176, rfl⟩
abbrev main_while0b_call5_c_1 : Ref sig .tc := ⟨.hbm, 177, rfl⟩
abbrev main_while0b_v100 : Ref sig .tc := ⟨.hbm, 178, rfl⟩
abbrev main_while0b_cst_16 : Ref sig .tc := ⟨.hbm, 179, rfl⟩
abbrev main_while0b_v101 : Ref sig .tc := ⟨.hbm, 180, rfl⟩
abbrev main_while0b_v102 : Ref sig .tc := ⟨.hbm, 181, rfl⟩
abbrev main_while0b_v103 : Ref sig .tc := ⟨.hbm, 182, rfl⟩
abbrev main_while0b_v104 : Ref sig .tc := ⟨.hbm, 183, rfl⟩
abbrev main_while0b_v105 : Ref sig .tc := ⟨.hbm, 184, rfl⟩
abbrev main_while0b_v106 : Ref sig .tc := ⟨.hbm, 185, rfl⟩
abbrev main_while0b_v107 : Ref sig .tc := ⟨.hbm, 186, rfl⟩
abbrev main_while0b_v108 : Ref sig .tc := ⟨.hbm, 187, rfl⟩
abbrev main_while0b_v109 : Ref sig .tc := ⟨.hbm, 188, rfl⟩
abbrev main_while0b_v110 : Ref sig .tc := ⟨.hbm, 189, rfl⟩
abbrev main_while0b_v111 : Ref sig .tc := ⟨.hbm, 190, rfl⟩
abbrev main_while0b_v112 : Ref sig .tc := ⟨.hbm, 191, rfl⟩
abbrev main_while0b_c_17 : Ref sig .tc := ⟨.hbm, 192, rfl⟩
abbrev main_while0b_v113 : Ref sig .tc := ⟨.hbm, 193, rfl⟩
abbrev main_cst_9 : Ref sig .tc := ⟨.hbm, 194, rfl⟩
abbrev main_v91 : Ref sig .tc := ⟨.hbm, 195, rfl⟩
abbrev main_v92 : Ref sig .tc := ⟨.hbm, 196, rfl⟩
abbrev main_v93 : Ref sig .tc := ⟨.hbm, 197, rfl⟩
abbrev main_cst_10 : Ref sig .tc := ⟨.hbm, 198, rfl⟩
abbrev main_call6_v0 : Ref sig .tc := ⟨.hbm, 199, rfl⟩
abbrev main_call6_v1 : Ref sig .tc := ⟨.hbm, 200, rfl⟩
abbrev main_v94 : Ref sig .tc := ⟨.hbm, 201, rfl⟩
abbrev main_v95 : Ref sig .tc := ⟨.hbm, 202, rfl⟩
abbrev main_v96 : Ref sig .tc := ⟨.hbm, 203, rfl⟩
abbrev main_v97 : Ref sig .tc := ⟨.hbm, 204, rfl⟩

abbrev nD : Nat := 1
abbrev τ : Topo := Topo.v7x

variable {F : FTy → Type} [FloatOps F]

abbrev main_while0_count : Scf.Loop 32 := ⟨0#32, 300#32, 1#32⟩
-- ==== Proof.While.lean ====
module

public import proofs.«01_k».proof.Proof.Gen.KernelIdeal.Skeleton
@[expose] public section
set_option maxRecDepth 65536
noncomputable section
namespace Cert.Proof
open Idealize.ShloMosaic Idealize.SL.Sem Cert.KernelIdeal Cert.KernelIdeal.Gen

variable {F : FTy → Type} [FloatOps F]

/-- Whether one batch entry's kept row changes in one pass of the suppression loop. -/
def chg (c : FVec F S384x384 .f32) (k : FVec F S1x384 .f32) : BitVec 1 := Scalar.cmpf .ogt (k1_pay3 c k) (Scalar.ofBits .f32 0x00000000#32)

/-- Whether any of the first `n` batch entries' kept rows changes. -/
def flagN (c : ℕ → FVec F S384x384 .f32) (k : ℕ → FVec F S1x384 .f32) : ℕ → BitVec 1
  | 0 => 0#1
  | n + 1 => Scalar.ori (flagN c k n) (chg (c n) (k n))

/-- One pass over all kept rows. -/
def nextK (c : ℕ → FVec F S384x384 .f32) (k : ℕ → FVec F S1x384 .f32) : ℕ → FVec F S1x384 .f32 := fun j => k1_pay2 (c j) (k j)

/-- The loop's operands, from the overlap squares, the kept rows and the flag. -/
@[reducible] def wArgs (c : ℕ → FVec F S384x384 .f32) (k : ℕ → FVec F S1x384 .f32) (g : BitVec 1) : (Λ₀ F).Args (2 : (Λ₀ F).Label) :=
  ⟨c 0, c 1, c 2, c 3, c 4, c 5, c 6, c 7, c 8, c 9, c 10, c 11, c 12, c 13, c 14, c 15, k 0, k 1, k 2, k 3, k 4, k 5, k 6, k 7, k 8, k 9, k 10, k 11, k 12, k 13, k 14, k 15, g⟩
/-- The loop's results. -/
@[reducible] def wRes (k : ℕ → FVec F S1x384 .f32) (g : BitVec 1) : (Λ₀ F).Result (2 : (Λ₀ F).Label) :=
  (k 0, k 1, k 2, k 3, k 4, k 5, k 6, k 7, k 8, k 9, k 10, k 11, k 12, k 13, k 14, k 15, g)

set_option maxHeartbeats 4000000 in
/-- One entry of the suppression loop: with the flag set, one pass and the loop again; otherwise the rows as they are. -/
theorem while_eq (c : ℕ → FVec F S384x384 .f32) (k : ℕ → FVec F S1x384 .f32) (g : BitVec 1) :
    defs₀ (F := F) .tc (2 : (Λ₀ F).Label) (wArgs c k g)
      = if g = 1#1 then Prog.op (.call (2 : (Λ₀ F).Label) (wArgs c (nextK c k) (flagN c k 16))) .ret else pure (wRes k g) := by
  show cc1_while1 (F := F) (c 0) (c 1) (c 2) (c 3) (c 4) (c 5) (c 6) (c 7) (c 8) (c 9) (c 10) (c 11) (c 12) (c 13) (c 14) (c 15) (k 0) (k 1) (k 2) (k 3) (k 4) (k 5) (k 6) (k 7) (k 8) (k 9) (k 10) (k 11) (k 12) (k 13) (k 14) (k 15) g = _
  rw [cc1_while1_eq_skeleton]
  unfold cc1_while1_skel
  by_cases h : g = 1#1
  · rw [if_pos h, if_pos h]
    simp (maxSteps := 100000000) only [k1_part95_eq_skeleton, k1_part96_eq_skeleton, k1_part97_eq_skeleton, k1_part98_eq_skeleton, k1_part99_eq_skeleton, k1_part100_eq_skeleton, k1_part95_skel, k1_part96_skel, k1_part97_skel, k1_part98_skel, k1_part99_skel, k1_part100_skel, Prog.bind_op, Prog.bind_ret, Prog.pure_eq_ret, Prog.lift]
    rfl
  · rw [if_neg h, if_neg h]

end Cert.Proof
-- ==== Proof.Nms.lean ====
module

public import proofs.«01_k».proof.Proof.While
public import Idealize.ShloMosaic.Lib.Pointwise
public import Idealize.ShloMosaic.Lib.IdealHost
@[expose] public section
set_option maxRecDepth 65536
noncomputable section
namespace Cert.Proof
open Idealize.ShloMosaic Idealize.SL.Sem Cert.KernelIdeal Cert.KernelIdeal.Gen

/-! ## Suppression as a step on sets of kept places -/

/-- One pass: a place is kept when no kept place suppresses it. -/
def nm {n : ℕ} (S : Fin n → Fin n → Bool) (K : Fin n → Bool) : Fin n → Bool := fun j => !decide (∃ i, K i = true ∧ S i j = true)

/-- A place is only ever suppressed by an earlier one. -/
def Upper {n : ℕ} (S : Fin n → Fin n → Bool) : Prop := ∀ i j, S i j = true → i < j

theorem nm_agree {n : ℕ} {S : Fin n → Fin n → Bool} (hS : Upper S) {K K' : Fin n → Bool} {t : ℕ} (h : ∀ j : Fin n, j.val < t → K j = K' j)
    (j : Fin n) (hj : j.val < t + 1) : nm S K j = nm S K' j := by
  have e : (∃ i, K i = true ∧ S i j = true) ↔ (∃ i, K' i = true ∧ S i j = true) := by
    constructor <;> rintro ⟨i, a, b⟩ <;> have hij : i.val < j.val := hS i j b
    · exact ⟨i, (h i (by omega)) ▸ a, b⟩
    · exact ⟨i, (h i (by omega)).symm ▸ a, b⟩
  unfold nm
  simp only [e]

theorem nm_iter_agree {n : ℕ} {S : Fin n → Fin n → Bool} (hS : Upper S) (K K' : Fin n → Bool) (t : ℕ) (j : Fin n) (hj : j.val < t) :
    (nm S)^[t] K j = (nm S)^[t] K' j := by
  induction t generalizing j with
  | zero => omega
  | succ t ih =>
    rw [Function.iterate_succ_apply', Function.iterate_succ_apply']
    exact nm_agree hS (fun i hi => ih i hi) j hj

/-- What repeated passes from everything kept end in. -/
def nmFix {n : ℕ} (S : Fin n → Fin n → Bool) : Fin n → Bool := (nm S)^[n] fun _ => true

theorem nmFix_of_fix {n : ℕ} {S : Fin n → Fin n → Bool} (hS : Upper S) {K : Fin n → Bool} (h : nm S K = K) : K = nmFix S := by
  have hK : ∀ t, (nm S)^[t] K = K := fun t => by
    induction t with
    | zero => rfl
    | succ t ih => rw [Function.iterate_succ_apply', ih, h]
  funext j
  rw [← hK n]
  exact nm_iter_agree hS _ _ n j j.isLt

theorem nm_nmFix {n : ℕ} {S : Fin n → Fin n → Bool} (hS : Upper S) : nm S (nmFix S) = nmFix S := by
  funext j
  show nm S ((nm S)^[n] _) j = _
  rw [← Function.iterate_succ_apply' (nm S), Function.iterate_succ_apply]
  exact nm_iter_agree hS _ _ n j j.isLt

theorem nm_stable {n : ℕ} {S : Fin n → Fin n → Bool} (hS : Upper S) : nm S ((nm S)^[n] fun _ => true) = (nm S)^[n] fun _ => true := nm_nmFix hS

/-! ## The kernel's rows and squares of zeros and ones -/

/-- A truth value as a number. -/
def num (b : Bool) : EReal := if b = true then 1 else 0
/-- A set of places as a row of zeros and ones. -/
def rowOf (K : Fin 384 → Bool) : FVec Ideal S1x384 .f32 := fun j => num (K (j 1))
/-- A relation as a square of zeros and ones. -/
def sqOf (S : Fin 384 → Fin 384 → Bool) : FVec Ideal S384x384 .f32 := fun j => num (S (j 0) (j 1))

theorem num_mul (a b : Bool) : num a * num b = num (a && b) := by cases a <;> cases b <;> simp [num]
theorem num_nonneg (a : Bool) : 0 ≤ num a := by cases a <;> simp [num]
theorem num_inj {a b : Bool} : num a = num b ↔ a = b := by cases a <;> cases b <;> simp [num]

theorem half_f32 : Ideal.ofBits .f32 0x3F000000#32 = ((1 / 2 : ℝ) : EReal) := by
  simp [Ideal.ofBits, Ideal.ieee, -EReal.coe_mul]; norm_num

theorem half_pos : (0 : EReal) ≤ ((1 / 2 : ℝ) : EReal) := by
  have := EReal.coe_le_coe_iff.mpr (show (0 : ℝ) ≤ 1 / 2 by norm_num)
  simpa using this
theorem half_lt_one : ((1 / 2 : ℝ) : EReal) < 1 := by
  have := EReal.coe_lt_coe_iff.mpr (show (1 / 2 : ℝ) < 1 by norm_num)
  simpa using this

/-- A count of ones is above one half exactly when there is one. -/
theorem half_lt_count {n : ℕ} (p : Fin n → Bool) : ((1 / 2 : ℝ) : EReal) < ∑ i, num (p i) ↔ ∃ i, p i = true := by
  constructor
  · intro h
    by_contra hn
    simp only [not_exists] at hn
    have : ∑ i, num (p i) = 0 := Finset.sum_eq_zero fun i _ => by have := hn i; simp [num, this]
    rw [this] at h
    exact absurd h (not_lt.mpr half_pos)
  · rintro ⟨i, hi⟩
    refine half_lt_one.trans_le ?_
    have := Finset.single_le_sum (f := fun i => num (p i)) (fun i _ => num_nonneg (p i)) (Finset.mem_univ i)
    simpa [num, hi] using this

theorem pay2_eq (S : Fin 384 → Fin 384 → Bool) (K : Fin 384 → Bool) : k1_pay2 (sqOf S) (rowOf K) = rowOf (nm S K) := by
  funext j
  show _ = num (nm S K (j 1))
  unfold k1_pay2
  pointwise
  rw [half_f32]
  have e : (∑ k : Fin 384, rowOf K (ix2 (j 0) k) * sqOf S (ix2 k (j 1))) = ∑ k : Fin 384, num (K k && S k (j 1)) :=
    Finset.sum_congr rfl fun k _ => num_mul (K k) (S k (j 1))
  rw [e]
  simp only [half_lt_count, Bool.and_eq_true]
  unfold nm
  by_cases h : ∃ i, K i = true ∧ S i (j 1) = true <;> simp [h, num]

theorem ninf_f32 : Ideal.ofBits .f32 0xFF800000#32 = ⊥ := by simp [Ideal.ofBits, Ideal.ieee]

theorem chg_iff (c : FVec Ideal S384x384 .f32) (k : FVec Ideal S1x384 .f32) : chg c k = 1#1 ↔ k1_pay2 c k ≠ k := by
  unfold chg k1_pay3
  pointwise
  rw [ninf_f32]
  have hb : ∀ p : Prop, ∀ _ : Decidable p, BitVec.ofBool (decide p) = 1#1 ↔ p := fun p _ => by by_cases h : p <;> simp [h]
  rw [hb, Finset.lt_fold_max]
  constructor
  · rintro (h | ⟨x, _, h⟩)
    · exact absurd h not_lt_bot
    · intro e
      rw [e] at h
      simp at h
  · intro h
    obtain ⟨j, hj⟩ := Function.ne_iff.mp h
    refine .inr ⟨(0, j 1), Finset.mem_univ _, ?_⟩
    have ej : (ix2 0 (j 1) : S1x384.Idx) = j := by
      funext a
      match a with
      | 0 => exact (Fin.eq_zero (j 0)).symm ▸ rfl
      | 1 => rfl
    show (0 : EReal) < if k1_pay2 c k (ix2 0 (j 1)) ≠ k (ix2 0 (j 1)) then 1 else 0
    rw [ej, if_pos hj]
    exact zero_lt_one

theorem chg_row (S : Fin 384 → Fin 384 → Bool) (K : Fin 384 → Bool) : chg (sqOf S) (rowOf K) = 1#1 ↔ nm S K ≠ K := by
  rw [chg_iff, pay2_eq]
  refine not_congr ⟨fun h => ?_, fun h => by rw [h]⟩
  funext i
  exact num_inj.mp (congrFun h (ix2 0 i))

theorem flagN_zero (c : ℕ → FVec Ideal S384x384 .f32) (k : ℕ → FVec Ideal S1x384 .f32) (n : ℕ) :
    flagN c k n = 0#1 ↔ ∀ b < n, chg (c b) (k b) ≠ 1#1 := by
  have key : ∀ a b : BitVec 1, Scalar.ori a b = 0#1 ↔ a = 0#1 ∧ b ≠ 1#1 := by decide
  induction n with
  | zero => simp [flagN]
  | succ n ih =>
    refine (key _ _).trans ((and_congr_left' ih).trans ?_)
    constructor
    · rintro ⟨h, h'⟩ b hb
      rcases Nat.lt_succ_iff_lt_or_eq.mp hb with h1 | rfl
      · exact h b h1
      · exact h'
    · exact fun h => ⟨fun b hb => h b (by omega), h n (by omega)⟩

/-! ## The suppression loop -/

open Idealize.SL Idealize.SL.RA Idealize.SL.BI
open scoped Idealize.SL.BI
open Idealize.SL.BI.BIBase Idealize.SL.BI.Laws Idealize.SL.ProofMode
open Idealize.ShloMosaic.Rounds

/-- The kept rows after `n` passes from everything kept. -/
def kRows (S : ℕ → Fin 384 → Fin 384 → Bool) (n : ℕ) : ℕ → FVec Ideal S1x384 .f32 := fun b => rowOf ((nm (S b))^[n] fun _ => true)

theorem nextK_rows (S : ℕ → Fin 384 → Fin 384 → Bool) (n : ℕ) : nextK (fun b => sqOf (S b)) (kRows S n) = kRows S (n + 1) := by
  funext b
  show k1_pay2 (sqOf (S b)) (rowOf _) = rowOf _
  rw [pay2_eq, Function.iterate_succ_apply']

theorem wRes_congr {k k' : ℕ → FVec Ideal S1x384 .f32} (h : ∀ b < 16, k b = k' b) (g : BitVec 1) : wRes k g = wRes k' g := by
  unfold wRes
  rw [h 0 (by decide), h 1 (by decide), h 2 (by decide), h 3 (by decide), h 4 (by decide), h 5 (by decide), h 6 (by decide), h 7 (by decide),
    h 8 (by decide), h 9 (by decide), h 10 (by decide), h 11 (by decide), h 12 (by decide), h 13 (by decide), h 14 (by decide), h 15 (by decide)]

/-- The loop entered after `n` passes ends, by a bound on the passes left, with every row at its fixed point. -/
theorem while_wp (d : Dev nD) (E : Set ℕ) (S : ℕ → Fin 384 → Fin 384 → Bool) (hS : ∀ b, Upper (S b)) (fuel : ℕ) :
    ∀ (Q : (Λ₀ Ideal).Result (2 : (Λ₀ Ideal).Label) → sProp (MT nD τ sig Unit (Elt Ideal) ℕ (URounds (GSem nD τ sig) Unit) ℕ)) (n : ℕ), n + fuel = 385 → ∀ g : BitVec 1,
      (g = 0#1 → ∀ b < 16, nm (S b) ((nm (S b))^[n] fun _ => true) = (nm (S b))^[n] fun _ => true) →
      (n = 385 → g = 0#1) →
      Q (wRes (fun b => rowOf (nmFix (S b))) 0#1)
        ⊢ wp frame (wpE (defs₀ (F := Ideal)) Variants.nat (d.tc : Thread nD τ) (some fuel)) E (defs₀ (F := Ideal) .tc (2 : (Λ₀ Ideal).Label) (wArgs (fun b => sqOf (S b)) (kRows S n) g)) Q := by
  have last : ∀ (fuel : ℕ) (Q : (Λ₀ Ideal).Result (2 : (Λ₀ Ideal).Label) → sProp (MT nD τ sig Unit (Elt Ideal) ℕ (URounds (GSem nD τ sig) Unit) ℕ)) (n : ℕ) (g : BitVec 1), g ≠ 1#1 →
      (g = 0#1 → ∀ b < 16, nm (S b) ((nm (S b))^[n] fun _ => true) = (nm (S b))^[n] fun _ => true) →
      Q (wRes (fun b => rowOf (nmFix (S b))) 0#1)
        ⊢ wp frame (wpE (defs₀ (F := Ideal)) Variants.nat (d.tc : Thread nD τ) (some fuel)) E (defs₀ (F := Ideal) .tc (2 : (Λ₀ Ideal).Label) (wArgs (fun b => sqOf (S b)) (kRows S n) g)) Q := by
    intro fuel Q n g hg hf
    have g0 : g = 0#1 := (by decide : ∀ g : BitVec 1, g ≠ 1#1 → g = 0#1) g hg
    rw [while_eq, if_neg hg, Prog.pure_eq_ret, wp_ret, g0]
    rw [wRes_congr (k := kRows S n) (k' := fun b => rowOf (nmFix (S b))) fun b hb => congrArg rowOf (nmFix_of_fix (hS b) (hf g0 b hb))]
    iintro H
    imodintro
    iexact H
  induction fuel with
  | zero =>
    intro Q n hn g hf hl
    have g0 := hl (by omega)
    exact last 0 Q n g (by rw [g0]; decide) hf
  | succ fuel ih =>
    intro Q n hn g hf hl
    by_cases hg : g = 1#1
    · rw [while_eq, if_pos hg, nextK_rows]
      have h1 : ∀ x, Q x ⊢ wp frame (wpE (defs₀ (F := Ideal)) Variants.nat (d.tc : Thread nD τ) (some (fuel + 1))) E (Prog.ret x) Q := fun x => by
        rw [wp_ret]
        iintro H
        imodintro
        iexact H
      refine (h1 _).trans ((ih (fun x => wp frame (wpE (defs₀ (F := Ideal)) Variants.nat (d.tc : Thread nD τ) (some (fuel + 1))) E (Prog.ret x) Q) (n + 1) (by omega) _ ?_ ?_).trans
        (wp_call Variants.nat (d.tc : Thread nD τ) (some (fuel + 1)) E fuel (fun u hu => by cases hu; exact Nat.lt_succ_self fuel)))
      · intro h0 b hb
        have := (flagN_zero _ _ _).mp h0 b hb
        have e : nm (S b) ((nm (S b))^[n] fun _ => true) = (nm (S b))^[n] fun _ => true := not_not.mp fun hne => this ((chg_row (S b) _).mpr hne)
        rw [Function.iterate_succ_apply', e, e]
      · intro h1
        refine (flagN_zero _ _ _).mpr fun b _ hc => (chg_row (S b) _).mp hc ?_
        obtain rfl : n = 384 := by omega
        exact nm_stable (hS b)
    · exact last _ Q n g hg hf

end Cert.Proof
-- ==== Proof.Batch.lean ====
module

public import proofs.«01_k».proof.Proof.Gen.KernelIdeal.Skeleton
@[expose] public section
set_option maxRecDepth 65536
noncomputable section
namespace Cert.Proof
open Idealize.ShloMosaic Idealize.SL.Sem Cert.KernelIdeal Cert.KernelIdeal.Gen

variable {F : FTy → Type} [FloatOps F]

/-- Rank numbers. -/
def iotaT : IVec S1x384 32 := iota .tc S1x384 32 [1] iota_S1x384_d1_w32
/-- Lane numbers. -/
def iotaL : IVec S1x128 32 := iota .tc S1x128 32 [1] iota_S1x128_d1_w32
/-- Row numbers. -/
def iotaR : IVec S1x264 32 := iota .tc S1x264 32 [1] iota_S1x264_d1_w32

/-- What the selection loop carries for one batch entry: the maximum of every row of its scores, and for the ranks filled so far the row, the lane and the score. -/
structure St (F : FTy → Type) where
  rm : FVec F S1x264 .f32
  rT : IVec S1x384 32
  cT : IVec S1x384 32
  cf : FVec F S1x384 .f32

/-- One selection for one batch entry: find the best row, read it, find the best lane, mark it as taken in memory, and note row, lane and score at rank `k`. -/
def topStep (scr : Memref sig .tc .vmem S264x128 .f32) (v80 : IVec S1x384 32) (v81 : IVec S1x128 32) (v82 : IVec S1x264 32) (k : Fin k1_t1_loop.trips) (st : St F) :
    Prog (TpuEff nD τ sig (Elt F) (Λ₀ F) .tc) (St F) := do
  let r := extractAt ![0, 0, 0] (k1_pay6 v82 st.rm) inpos_S1x1x1_p0_0_0
  have hw : k1_chk1 r := (← Prog.lift (TpuEff.assume (k1_chk1 r) (k1_chk1.dec r))).down
  let w : Vec F S1x128 .f32 ← Prog.lift (.load scr (Rect.unit (s := S264x128) (k1_off1 r) S1x128.size (k1_off1_inb r hw)).toLoadRect (View.loadsAt_vmem h_S1x128))
  let _ : Vec F S1x128 .f32 ← Prog.lift (.load scr (Rect.unit (s := S264x128) (k1_off1 r) S1x128.size (k1_off1_inb r hw)).toLoadRect (View.loadsAt_vmem h_S1x128))
  Prog.lift (.store scr (Rect.unit (s := S264x128) (k1_off1 r) S1x128.size (k1_off1_inb r hw)) (k1_pay8 v81 st.rm w) Finset.univ (View.stores_vmem_bits_univ h_S1x128 rfl) (.inl rfl))
  pure ⟨k1_pay9 v81 v82 st.rm w, k1_pay10 v80 v82 0#32 1#32 k st.rm st.rT, k1_pay11 v80 v81 0#32 1#32 k st.rm st.cT w, k1_pay12 v80 0#32 1#32 k st.rm st.cf⟩

/-- The selections of the batch entries of a list, one after the other. -/
def tripL (v80 : IVec S1x384 32) (v81 : IVec S1x128 32) (v82 : IVec S1x264 32) (k : Fin k1_t1_loop.trips) :
    List (Memref sig .tc .vmem S264x128 .f32 × St F) → Prog (TpuEff nD τ sig (Elt F) (Λ₀ F) .tc) (List (St F))
  | [] => pure []
  | (m, s) :: l => do
    let x ← topStep m v80 v81 v82 k s
    let xs ← tripL v80 v81 v82 k l
    pure (x :: xs)

/-- The sixteen states as the loop's tuple. -/
@[reducible] def pk (f : ℕ → St F) := ((f 0).rm, (f 1).rm, (f 2).rm, (f 3).rm, (f 4).rm, (f 5).rm, (f 6).rm, (f 7).rm, (f 8).rm, (f 9).rm, (f 10).rm, (f 11).rm, (f 12).rm, (f 13).rm, (f 14).rm, (f 15).rm, (f 0).rT, (f 1).rT, (f 2).rT, (f 3).rT, (f 4).rT, (f 5).rT, (f 6).rT, (f 7).rT, (f 8).rT, (f 9).rT, (f 10).rT, (f 11).rT, (f 12).rT, (f 13).rT, (f 14).rT, (f 15).rT, (f 0).cT, (f 1).cT, (f 2).cT, (f 3).cT, (f 4).cT, (f 5).cT, (f 6).cT, (f 7).cT, (f 8).cT, (f 9).cT, (f 10).cT, (f 11).cT, (f 12).cT, (f 13).cT, (f 14).cT, (f 15).cT, (f 0).cf, (f 1).cf, (f 2).cf, (f 3).cf, (f 4).cf, (f 5).cf, (f 6).cf, (f 7).cf, (f 8).cf, (f 9).cf, (f 10).cf, (f 11).cf, (f 12).cf, (f 13).cf, (f 14).cf, (f 15).cf)

set_option maxHeartbeats 20000000 in
theorem body_eq (arg0 : Memref sig .tc .vmem S16x264x128 .f32) (harg0 : arg0.IsWhole) (arg1 : Memref sig .tc .vmem S16x264x128 .f32) (harg1 : arg1.IsWhole) (arg2 : Memref sig .tc .vmem S16x4x264x128 .f32) (harg2 : arg2.IsWhole) (arg3 : Memref sig .tc .vmem S16x300x6 .f32) (harg3 : arg3.IsWhole) (arg4 : Memref sig .tc .vmem S264x128 .f32) (harg4 : arg4.IsWhole) (arg5 : Memref sig .tc .vmem S264x128 .f32) (harg5 : arg5.IsWhole) (arg6 : Memref sig .tc .vmem S264x128 .f32) (harg6 : arg6.IsWhole) (arg7 : Memref sig .tc .vmem S264x128 .f32) (harg7 : arg7.IsWhole) (arg8 : Memref sig .tc .vmem S264x128 .f32) (harg8 : arg8.IsWhole) (arg9 : Memref sig .tc .vmem S264x128 .f32) (harg9 : arg9.IsWhole) (arg10 : Memref sig .tc .vmem S264x128 .f32) (harg10 : arg10.IsWhole) (arg11 : Memref sig .tc .vmem S264x128 .f32) (harg11 : arg11.IsWhole) (arg12 : Memref sig .tc .vmem S264x128 .f32) (harg12 : arg12.IsWhole) (arg13 : Memref sig .tc .vmem S264x128 .f32) (harg13 : arg13.IsWhole) (arg14 : Memref sig .tc .vmem S264x128 .f32) (harg14 : arg14.IsWhole) (arg15 : Memref sig .tc .vmem S264x128 .f32) (harg15 : arg15.IsWhole) (arg16 : Memref sig .tc .vmem S264x128 .f32) (harg16 : arg16.IsWhole) (arg17 : Memref sig .tc .vmem S264x128 .f32) (harg17 : arg17.IsWhole) (arg18 : Memref sig .tc .vmem S264x128 .f32) (harg18 : arg18.IsWhole) (arg19 : Memref sig .tc .vmem S264x128 .f32) (harg19 : arg19.IsWhole)

    (v80 : IVec S1x384 32) (v81 : IVec S1x128 32) (v82 : IVec S1x264 32) (v85 v88 v91 v94 v97 v100 v103 v106 v109 v112 : FVec F S1x264 .f32) (k : Fin k1_t1_loop.trips) (d : St F) (f : ℕ → St F) :
    k1_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v80 v81 v82 v85 v88 v91 v94 v97 v100 v103 v106 v109 v112 k  (pk f)
      = (tripL v80 v81 v82 k [(arg4, f 0), (arg5, f 1), (arg6, f 2), (arg7, f 3), (arg8, f 4), (arg9, f 5), (arg10, f 6), (arg11, f 7), (arg12, f 8), (arg13, f 9), (arg14, f 10), (arg15, f 11), (arg16, f 12), (arg17, f 13), (arg18, f 14), (arg19, f 15)] >>= fun g => pure (pk fun j => g.getD j d)) := by
  unfold k1_t1_body
  simp (maxSteps := 100000000) only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton]
  unfold k1_part1_skel k1_part2_skel k1_part3_skel k1_part4_skel k1_part5_skel k1_part6_skel k1_part7_skel k1_part8_skel k1_part9_skel k1_part10_skel k1_part11_skel k1_part12_skel k1_part13_skel k1_part14_skel
  simp (maxSteps := 100000000) only [tripL, topStep, Prog.bind_op, Prog.bind_ret, Prog.pure_eq_ret, Prog.lift]
  iterate 64 refine congrArg (Prog.op _) (funext fun _ => ?_)
  rfl

end Cert.Proof
-- ==== Proof.Pays.lean ====
module

public import proofs.«01_k».proof.Proof.Nms
public import proofs.«01_k».proof.Proof.Batch
@[expose] public section
set_option maxRecDepth 65536
noncomputable section
namespace Cert.Proof
open Idealize.ShloMosaic Idealize.SL.Sem Cert.KernelIdeal Cert.KernelIdeal.Gen

/-! ## The first place of the greatest value -/

theorem exists_fmax {n : ℕ} [NeZero n] (x : Fin n → EReal) : ∃ i, (∀ j, x j ≤ x i) ∧ ∀ j < i, x j < x i := by
  obtain ⟨m, hm⟩ := Finite.exists_max x
  have hne : {i | x i = x m}.Nonempty := ⟨m, rfl⟩
  have wf : WellFounded ((· < ·) : Fin n → Fin n → Prop) := wellFounded_lt
  have hmem : x (wf.min _ hne) = x m := wf.min_mem _ hne
  refine ⟨wf.min _ hne, fun j => by rw [hmem]; exact hm j, fun j hj => ?_⟩
  rw [hmem]
  exact lt_of_le_of_ne (hm j) fun e => wf.not_lt_min {i | x i = x m} e hj

/-- The first place of the greatest value. -/
def fmax {n : ℕ} [NeZero n] (x : Fin n → EReal) : Fin n := (exists_fmax x).choose
theorem le_fmax {n : ℕ} [NeZero n] (x : Fin n → EReal) (j : Fin n) : x j ≤ x (fmax x) := (exists_fmax x).choose_spec.1 j
theorem lt_fmax {n : ℕ} [NeZero n] (x : Fin n → EReal) (j : Fin n) (h : j < fmax x) : x j < x (fmax x) := (exists_fmax x).choose_spec.2 j h
theorem fmax_eq {n : ℕ} [NeZero n] (x : Fin n → EReal) (i : Fin n) (h1 : ∀ j, x j ≤ x i) (h2 : ∀ j < i, x j < x i) : fmax x = i := by
  rcases lt_trichotomy (fmax x) i with h | h | h
  · exact absurd (h2 _ h) (not_lt.mpr (le_fmax x i))
  · exact h
  · exact absurd (lt_fmax x i h) (not_lt.mpr (h1 _))

theorem foldmax_row {n : ℕ} [NeZero n] (x : Fin n → EReal) :
    Finset.fold max ⊥ (fun y : Fin 1 × Fin n => x y.2) Finset.univ = x (fmax x) := by
  refine le_antisymm ?_ ?_
  · exact Finset.fold_max_le _ |>.mpr ⟨bot_le, fun y _ => le_fmax x y.2⟩
  · exact Finset.le_fold_max _ |>.mpr (.inr ⟨(0, fmax x), Finset.mem_univ _, le_rfl⟩)

theorem foldmax_line {n : ℕ} [NeZero n] (x : Fin n → EReal) : Finset.fold max ⊥ x Finset.univ = x (fmax x) := by
  refine le_antisymm ?_ ?_
  · exact Finset.fold_max_le _ |>.mpr ⟨bot_le, fun y _ => le_fmax x y⟩
  · exact Finset.le_fold_max _ |>.mpr (.inr ⟨fmax x, Finset.mem_univ _, le_rfl⟩)

theorem toInt_small (i : ℕ) (h : i < 2147483647) : (BitVec.ofNat 32 i).toInt = i := by
  rw [BitVec.toInt_ofNat', Int.bmod_def]
  omega

theorem minsi_first {n : ℕ} (hn : n < 2147483647) (p : Fin n → Prop) [DecidablePred p] (i : Fin n) (hi : p i) (hmin : ∀ j < i, ¬ p j) :
    Finset.fold IntOp.minsi (2147483647#32) (fun x : Fin 1 × Fin n => if p x.2 then BitVec.ofNat 32 ↑x.2 else 2147483647#32) Finset.univ = BitVec.ofNat 32 i.val := by
  refine BitVec.eq_of_toInt_eq ?_
  rw [toInt_small i.val (by omega), ← Finset.fold_hom (op' := min) (m := BitVec.toInt) (fun a b => by
    unfold IntOp.minsi
    by_cases h : a.slt b = true
    · rw [if_pos h]; rw [BitVec.slt_iff_toInt_lt] at h; omega
    · rw [if_neg h]; rw [BitVec.slt_iff_toInt_lt] at h; omega)]
  have big : (2147483647#32).toInt = 2147483647 := by decide
  refine le_antisymm ?_ ?_
  · refine Finset.fold_min_le _ |>.mpr (.inr ⟨(0, i), Finset.mem_univ _, ?_⟩)
    show (if p i then BitVec.ofNat 32 i.val else 2147483647#32).toInt ≤ _
    rw [if_pos hi, toInt_small i.val (by omega)]
  · refine Finset.le_fold_min _ |>.mpr ⟨by rw [big]; omega, fun y _ => ?_⟩
    by_cases hy : p y.2
    · rw [if_pos hy, toInt_small _ (by omega)]
      have : ¬ y.2 < i := fun h => hmin _ h hy
      omega
    · rw [if_neg hy, big]
      omega

/-- The first row holding the greatest row maximum. -/
def selRow (rm : FVec Ideal S1x264 .f32) : Fin 264 := fmax fun i : Fin 264 => rm (ix2 0 i)

theorem pay5_eq (rm : FVec Ideal S1x264 .f32) : k1_pay5 rm = rm (ix2 0 (selRow rm)) := by
  unfold k1_pay5
  pointwise
  rw [ninf_f32]
  exact foldmax_row fun i : Fin 264 => rm (ix2 0 i)

theorem pay6_eq (rm : FVec Ideal S1x264 .f32) : extractAt ![0, 0, 0] (k1_pay6 iotaR rm) inpos_S1x1x1_p0_0_0 = BitVec.ofNat 32 (selRow rm).val := by
  unfold k1_pay6 iotaR
  pointwise
  rw [pay5_eq]
  exact minsi_first (by decide) (fun i : Fin 264 => rm (ix2 0 i) = rm (ix2 0 (selRow rm))) (selRow rm) rfl
    fun j hj => ne_of_lt (lt_fmax (fun i : Fin 264 => rm (ix2 0 i)) j hj)

theorem off_row (i : Fin 264) : k1_off1 (BitVec.ofNat 32 i.val) = ![i.val, 0] := by
  have : (BitVec.ofNat 32 i.val).toNat = i.val := by rw [BitVec.toNat_ofNat]; omega
  show ![(BitVec.ofNat 32 i.val).toNat, 0] = _
  rw [this]

theorem chk_row (i : Fin 264) : k1_chk1 (BitVec.ofNat 32 i.val) := by
  show ∀ a, (k1_off1 (BitVec.ofNat 32 i.val)) a + S1x128.size a ≤ S264x128.size a
  rw [off_row]
  intro a
  match a with
  | 0 => show i.val + 1 ≤ 264; omega
  | 1 => exact Nat.le_refl _

end Cert.Proof
-- ==== Proof.Select.lean ====
module

public import proofs.«01_k».proof.Proof.Batch
@[expose] public section
set_option maxRecDepth 65536
noncomputable section
namespace Cert.Proof
open Idealize.ShloMosaic Idealize.SL.Sem Cert.KernelIdeal Cert.KernelIdeal.Gen

variable {F : FTy → Type} [FloatOps F]

/-! ## What the kernel computes for one batch entry, after the selection -/

/-- Row numbers of a square of 384. -/
def iotaRow : IVec S384x384 32 := iota .tc S384x384 32 [0] iota_S384x384_d0_w32
/-- Column numbers of a square of 384. -/
def iotaCol : IVec S384x384 32 := iota .tc S384x384 32 [1] iota_S384x384_d1_w32
/-- Row-of-scores numbers along the second axis. -/
def iotaNR : IVec S384x264 32 := iota .tc S384x264 32 [1] iota_S384x264_d1_w32
/-- Lane numbers along the second axis. -/
def iotaNL : IVec S384x128 32 := iota .tc S384x128 32 [1] iota_S384x128_d1_w32
/-- Output column numbers. -/
def iota6 : IVec S384x6 32 := iota .tc S384x6 32 [1] iota_S384x6_d1_w32
/-- The diagonal of the square. -/
def eye : IVec S384x384 1 := cmpi .eq iotaRow iotaCol

/-- A row of words as a column: the diagonal's sum along each row. -/
def colI (row : IVec S1x384 32) : IVec S384x1 32 :=
  shapeCast S384x1 (multiReductionI .add [1] S384 (select eye (broadcastTo S384x384 (shapeCast S1x384 row shapeCasts_S1x384_S1x384) broadcasts_S1x384_S384x384) (broadcast S384x384 0#32)) 0#32
    reduces_S384x384_S384 rfl) shapeCasts_S384_S384x1
/-- A row of numbers as a column. -/
def colF (row : FVec F S1x384 .f32) : FVec F S384x1 .f32 :=
  shapeCast S384x1 (multiReduction .add [1] S384 (select eye (broadcastTo S384x384 (shapeCast S1x384 row shapeCasts_S1x384_S1x384) broadcasts_S1x384_S384x384)
    (broadcast S384x384 (Scalar.ofBits .f32 0x00000000#32))) 0x00000000#32 reduces_S384x384_S384 (.inl rfl) rfl) shapeCasts_S384_S384x1
/-- A column of numbers as a row. -/
def rowF (col : FVec F S384x1 .f32) : FVec F S1x384 .f32 :=
  shapeCast S1x384 (multiReduction .add [0] S384 (select eye (broadcastTo S384x384 (shapeCast S384x1 col shapeCasts_S384x1_S384x1) broadcasts_S384x1_S384x384)
    (broadcast S384x384 (Scalar.ofBits .f32 0x00000000#32))) 0x00000000#32 reduces_S384x384_S384_2 (.inl rfl) rfl) shapeCasts_S384_S1x384
/-- One-hot rows of the selected row numbers. -/
def rsel (rT : IVec S1x384 32) : FVec F S384x264 .f32 :=
  select (cmpi .eq iotaNR (broadcastTo S384x264 (colI rT) broadcasts_S384x1_S384x264)) (broadcast S384x264 (Scalar.ofBits .f32 0x3F800000#32)) (broadcast S384x264 (Scalar.ofBits .f32 0x00000000#32))
/-- One-hot rows of the selected lane numbers. -/
def lane (cT : IVec S1x384 32) : FVec F S384x128 .f32 :=
  select (cmpi .eq iotaNL (broadcastTo S384x128 (colI cT) broadcasts_S384x1_S384x128)) (broadcast S384x128 (Scalar.ofBits .f32 0x3F800000#32)) (broadcast S384x128 (Scalar.ofBits .f32 0x00000000#32))
/-- The selected elements of a plane: a product with the one-hot rows, then a sum against the one-hot lanes. -/
def pick (prec : Option ContractPrecision) (rs : FVec F S384x264 .f32) (ln : FVec F S384x128 .f32) (plane : FVec F S264x128 .f32) : FVec F S384x1 .f32 :=
  shapeCast S384x1 (multiReduction .add [1] S384 (mulf (matmul dot_S384x264_S264x128_S384x128_1_0_0_1_n_n prec rs plane (constant S384x128 .f32 0x00000000#32)) ln) 0x00000000#32
    reduces_S384x128_S384 (.inl rfl) rfl) shapeCasts_S384_S384x1

/-- The columns the kernel keeps for one batch entry: the boxes, the score, the class and which earlier box overlaps which later one. -/
structure Cols (F : FTy → Type) where
  cx : FVec F S384x1 .f32
  cy : FVec F S384x1 .f32
  w : FVec F S384x1 .f32
  h : FVec F S384x1 .f32
  cf : FVec F S384x1 .f32
  cl : FVec F S384x1 .f32

/-- Half of a column. -/
def half (v : FVec F S384x1 .f32) : FVec F S384x1 .f32 := mulf v (broadcast S384x1 (Scalar.ofBits .f32 0x3F000000#32))
/-- A column along the square's rows. -/
def alongC (v : FVec F S384x1 .f32) : FVec F S384x384 .f32 := broadcastTo S384x384 v broadcasts_S384x1_S384x384
/-- A column, as a row, along the square's columns. -/
def alongR (v : FVec F S384x1 .f32) : FVec F S384x384 .f32 := broadcastTo S384x384 (rowF v) broadcasts_S1x384_S384x384
/-- The overlap of two intervals' extents, not below zero. -/
def overlap (lo hi : FVec F S384x1 .f32) : FVec F S384x384 .f32 :=
  maximumf (subf (minimumf (alongC hi) (alongR hi)) (maximumf (alongC lo) (alongR lo))) (broadcast S384x384 (Scalar.ofBits .f32 0x00000000#32))
/-- The overlap ratio of every two boxes given by their corners and areas. -/
def ratio (x1 y1 x2 y2 ar : FVec F S384x1 .f32) : FVec F S384x384 .f32 :=
  divf (mulf (overlap x1 x2) (overlap y1 y2))
    (addf (subf (addf (alongC ar) (alongR ar)) (mulf (overlap x1 x2) (overlap y1 y2))) (broadcast S384x384 (Scalar.ofBits .f32 0x33D6BF95#32)))
/-- Which box overlaps which later one too much, as zeros and ones. -/
def candOf (x1 y1 x2 y2 ar : FVec F S384x1 .f32) : FVec F S384x384 .f32 :=
  select (andi (cmpf .ogt (ratio x1 y1 x2 y2 ar) (broadcast S384x384 (Scalar.ofBits .f32 0x3F333333#32))) (cmpi .sgt iotaCol iotaRow))
    (broadcast S384x384 (Scalar.ofBits .f32 0x3F800000#32)) (broadcast S384x384 (Scalar.ofBits .f32 0x00000000#32))
/-- The same from the columns. -/
def cand (c : Cols F) : FVec F S384x384 .f32 :=
  candOf (subf c.cx (half c.w)) (subf c.cy (half c.h)) (addf c.cx (half c.w)) (addf c.cy (half c.h))
    (mulf (subf (addf c.cx (half c.w)) (subf c.cx (half c.w))) (subf (addf c.cy (half c.h)) (subf c.cy (half c.h))))

/-- The score of a kept box above the threshold, zero otherwise. -/
def confOut (c : Cols F) (keep : FVec F S1x384 .f32) : FVec F S384x1 .f32 :=
  select (andi (cmpf .ogt (colF keep) (broadcast S384x1 (Scalar.ofBits .f32 0x3F000000#32))) (cmpf .ogt c.cf (broadcast S384x1 (Scalar.ofBits .f32 0x3A83126F#32))))
    c.cf (broadcast S384x1 (Scalar.ofBits .f32 0x00000000#32))
/-- A column along the six output columns. -/
def spread6 (v : FVec F S384x1 .f32) : FVec F S384x6 .f32 := broadcastTo S384x6 (shapeCast S384x1 v shapeCasts_S384x1_S384x1) broadcasts_S384x1_S384x6
/-- The six columns side by side. -/
def sixCols (c : Cols F) (keep : FVec F S1x384 .f32) : FVec F S384x6 .f32 :=
  addf (addf (addf (addf (addf (addf (broadcast S384x6 (Scalar.ofBits .f32 0x00000000#32)) (select (cmpi .eq iota6 (broadcast S384x6 0#32)) (spread6 c.cx) (broadcast S384x6 (Scalar.ofBits .f32 0x00000000#32)))) (select (cmpi .eq iota6 (broadcast S384x6 1#32)) (spread6 c.cy) (broadcast S384x6 (Scalar.ofBits .f32 0x00000000#32)))) (select (cmpi .eq iota6 (broadcast S384x6 2#32)) (spread6 c.w) (broadcast S384x6 (Scalar.ofBits .f32 0x00000000#32)))) (select (cmpi .eq iota6 (broadcast S384x6 3#32)) (spread6 c.h) (broadcast S384x6 (Scalar.ofBits .f32 0x00000000#32)))) (select (cmpi .eq iota6 (broadcast S384x6 4#32)) (spread6 (confOut c keep)) (broadcast S384x6 (Scalar.ofBits .f32 0x00000000#32)))) (select (cmpi .eq iota6 (broadcast S384x6 5#32)) (spread6 c.cl) (broadcast S384x6 (Scalar.ofBits .f32 0x00000000#32)))
/-- The block of the result: the first three hundred rows. -/
def outBlk (c : Cols F) (keep : FVec F S1x384 .f32) : FVec F S1x300x6 .f32 :=
  shapeCast S1x300x6 (extractStridedSlice S300x6 ![0, 0] (sixCols c keep) slices_S384x6_o0_0_S300x6) shapeCasts_S300x6_S1x300x6

/-- The columns from the selection and the planes read. -/
def colsOf (rT cT : IVec S1x384 32) (cf : FVec F S1x384 .f32) (p0 p1 p2 p3 : Vec F S1x1x264x128 .f32) (p4 : Vec F S1x264x128 .f32) : Cols F where
  cx := pick (some .fp32) (rsel rT) (lane cT) (shapeCast S264x128 p0 shapeCasts_S1x1x264x128_S264x128)
  cy := pick (some .fp32) (rsel rT) (lane cT) (shapeCast S264x128 p1 shapeCasts_S1x1x264x128_S264x128)
  w := pick (some .fp32) (rsel rT) (lane cT) (shapeCast S264x128 p2 shapeCasts_S1x1x264x128_S264x128)
  h := pick (some .fp32) (rsel rT) (lane cT) (shapeCast S264x128 p3 shapeCasts_S1x1x264x128_S264x128)
  cf := colF cf
  cl := pick none (rsel rT) (lane cT) (shapeCast S264x128 p4 shapeCasts_S1x264x128_S264x128)

/-! ## The kernel's program, batch entry by batch entry -/

theorem inb_plane (b : Fin 16) : ∀ a, (![b.val, 0, 0] : Fin 3 → ℕ) a + S1x264x128.size a ≤ S16x264x128.size a
  | 0 => show b.val + 1 ≤ 16 by omega
  | 1 => Nat.le_refl _
  | 2 => Nat.le_refl _
theorem inb_box (b : Fin 16) (j : Fin 4) : ∀ a, (![b.val, j.val, 0, 0] : Fin 4 → ℕ) a + S1x1x264x128.size a ≤ S16x4x264x128.size a
  | 0 => show b.val + 1 ≤ 16 by omega
  | 1 => show j.val + 1 ≤ 4 by omega
  | 2 => Nat.le_refl _
  | 3 => Nat.le_refl _
theorem inb_out (b : Fin 16) : ∀ a, (![b.val, 0, 0] : Fin 3 → ℕ) a + S1x300x6.size a ≤ S16x300x6.size a
  | 0 => show b.val + 1 ≤ 16 by omega
  | 1 => Nat.le_refl _
  | 2 => Nat.le_refl _

/-- The scores of a list of batch entries copied into their scratch buffers. -/
def setupL (smax : Memref sig .tc .vmem S16x264x128 .f32) : List (Fin 16 × Memref sig .tc .vmem S264x128 .f32) → Prog (TpuEff nD τ sig (Elt F) (Λ₀ F) .tc) PUnit
  | [] => pure ⟨⟩
  | (b, m) :: l => do
    let v : Vec F S1x264x128 .f32 ← Prog.lift (.load smax (Rect.unit (s := S16x264x128) ![b.val, 0, 0] S1x264x128.size (inb_plane b)).toLoadRect (View.loadsAt_vmem h_S1x264x128))
    let _ : Vec F S264x128 .f32 ← Prog.lift (.load m (Rect.unit (s := S264x128) ![0, 0] S264x128.size inb_S264x128_S264x128_0_0).toLoadRect (View.loadsAt_vmem h_S264x128))
    Prog.lift (.store m (Rect.unit (s := S264x128) ![0, 0] S264x128.size inb_S264x128_S264x128_0_0) (k1_pay143 v) Finset.univ (View.stores_vmem_bits_univ h_S264x128 rfl) (.inl rfl))
    setupL smax l

/-- The row maxima of a list of scratch buffers. -/
def rowMaxL : List (Memref sig .tc .vmem S264x128 .f32) → Prog (TpuEff nD τ sig (Elt F) (Λ₀ F) .tc) (List (FVec F S1x264 .f32))
  | [] => pure []
  | m :: l => do
    let v : Vec F S264x128 .f32 ← Prog.lift (.load m (Rect.unit (s := S264x128) ![0, 0] S264x128.size inb_S264x128_S264x128_0_0).toLoadRect (View.loadsAt_vmem h_S264x128))
    let r ← rowMaxL l
    pure (k1_pay160 v :: r)

/-- The boxes and classes of what was selected, for a list of batch entries. -/
def gatherL (cls : Memref sig .tc .vmem S16x264x128 .f32) (box : Memref sig .tc .vmem S16x4x264x128 .f32) :
    List (Fin 16 × IVec S1x384 32 × IVec S1x384 32 × FVec F S1x384 .f32) → Prog (TpuEff nD τ sig (Elt F) (Λ₀ F) .tc) (List (Cols F))
  | [] => pure []
  | (b, rT, cT, cf) :: l => do
    let p0 : Vec F S1x1x264x128 .f32 ← Prog.lift (.load box (Rect.unit (s := S16x4x264x128) ![b.val, (0 : Fin 4).val, 0, 0] S1x1x264x128.size (inb_box b 0)).toLoadRect (View.loadsAt_vmem h_S1x1x264x128))
    let p1 : Vec F S1x1x264x128 .f32 ← Prog.lift (.load box (Rect.unit (s := S16x4x264x128) ![b.val, (1 : Fin 4).val, 0, 0] S1x1x264x128.size (inb_box b 1)).toLoadRect (View.loadsAt_vmem h_S1x1x264x128))
    let p2 : Vec F S1x1x264x128 .f32 ← Prog.lift (.load box (Rect.unit (s := S16x4x264x128) ![b.val, (2 : Fin 4).val, 0, 0] S1x1x264x128.size (inb_box b 2)).toLoadRect (View.loadsAt_vmem h_S1x1x264x128))
    let p3 : Vec F S1x1x264x128 .f32 ← Prog.lift (.load box (Rect.unit (s := S16x4x264x128) ![b.val, (3 : Fin 4).val, 0, 0] S1x1x264x128.size (inb_box b 3)).toLoadRect (View.loadsAt_vmem h_S1x1x264x128))
    let p4 : Vec F S1x264x128 .f32 ← Prog.lift (.load cls (Rect.unit (s := S16x264x128) ![b.val, 0, 0] S1x264x128.size (inb_plane b)).toLoadRect (View.loadsAt_vmem h_S1x264x128))
    let r ← gatherL cls box l
    pure (colsOf rT cT cf p0 p1 p2 p3 p4 :: r)

/-- The result blocks of a list of batch entries. -/
def outL (o : Memref sig .tc .vmem S16x300x6 .f32) : List (Fin 16 × Cols F × FVec F S1x384 .f32) → Prog (TpuEff nD τ sig (Elt F) (Λ₀ F) .tc) PUnit
  | [] => pure ⟨⟩
  | (b, c, keep) :: l => do
    let _ : Vec F S1x300x6 .f32 ← Prog.lift (.load o (Rect.unit (s := S16x300x6) ![b.val, 0, 0] S1x300x6.size (inb_out b)).toLoadRect (View.loadsAt_vmem h_S1x300x6))
    Prog.lift (.store o (Rect.unit (s := S16x300x6) ![b.val, 0, 0] S1x300x6.size (inb_out b)) (outBlk c keep) Finset.univ (View.stores_vmem_bits_univ h_S1x300x6 rfl) (.inl rfl))
    outL o l

/-- Some columns, for the places past the end of a list. -/
def colsZ : Cols F :=
  let z : FVec F S384x1 .f32 := broadcast S384x1 (Scalar.ofBits .f32 0x00000000#32)
  ⟨z, z, z, z, z, z⟩
/-- All ones. -/
def ones : FVec F S1x384 .f32 := broadcast S1x384 (Scalar.ofBits .f32 0x3F800000#32)
/-- All zeros, as a row of numbers. -/
def zeroF : FVec F S1x384 .f32 := broadcast S1x384 (Scalar.ofBits .f32 0x00000000#32)
/-- All zeros, as a row of words. -/
def zeroI : IVec S1x384 32 := broadcast S1x384 0#32
/-- The state before the first selection. -/
def st0 (r : FVec F S1x264 .f32) : St F := ⟨r, zeroI, zeroI, zeroF⟩

/-- The whole kernel. -/
def selProg (arg0 : Memref sig .tc .vmem S16x264x128 .f32) (harg0 : arg0.IsWhole) (arg1 : Memref sig .tc .vmem S16x264x128 .f32) (harg1 : arg1.IsWhole) (arg2 : Memref sig .tc .vmem S16x4x264x128 .f32) (harg2 : arg2.IsWhole) (arg3 : Memref sig .tc .vmem S16x300x6 .f32) (harg3 : arg3.IsWhole) (arg4 : Memref sig .tc .vmem S264x128 .f32) (harg4 : arg4.IsWhole) (arg5 : Memref sig .tc .vmem S264x128 .f32) (harg5 : arg5.IsWhole) (arg6 : Memref sig .tc .vmem S264x128 .f32) (harg6 : arg6.IsWhole) (arg7 : Memref sig .tc .vmem S264x128 .f32) (harg7 : arg7.IsWhole) (arg8 : Memref sig .tc .vmem S264x128 .f32) (harg8 : arg8.IsWhole) (arg9 : Memref sig .tc .vmem S264x128 .f32) (harg9 : arg9.IsWhole) (arg10 : Memref sig .tc .vmem S264x128 .f32) (harg10 : arg10.IsWhole) (arg11 : Memref sig .tc .vmem S264x128 .f32) (harg11 : arg11.IsWhole) (arg12 : Memref sig .tc .vmem S264x128 .f32) (harg12 : arg12.IsWhole) (arg13 : Memref sig .tc .vmem S264x128 .f32) (harg13 : arg13.IsWhole) (arg14 : Memref sig .tc .vmem S264x128 .f32) (harg14 : arg14.IsWhole) (arg15 : Memref sig .tc .vmem S264x128 .f32) (harg15 : arg15.IsWhole) (arg16 : Memref sig .tc .vmem S264x128 .f32) (harg16 : arg16.IsWhole) (arg17 : Memref sig .tc .vmem S264x128 .f32) (harg17 : arg17.IsWhole) (arg18 : Memref sig .tc .vmem S264x128 .f32) (harg18 : arg18.IsWhole) (arg19 : Memref sig .tc .vmem S264x128 .f32) (harg19 : arg19.IsWhole) : Prog (TpuEff nD τ sig (Elt F) (Λ₀ F) .tc) PUnit := do
  setupL arg0 [(0, arg4), (1, arg5), (2, arg6), (3, arg7), (4, arg8), (5, arg9), (6, arg10), (7, arg11), (8, arg12), (9, arg13), (10, arg14), (11, arg15), (12, arg16), (13, arg17), (14, arg18), (15, arg19)]
  let rm ← rowMaxL [arg4, arg5, arg6, arg7, arg8, arg9, arg10, arg11, arg12, arg13, arg14, arg15, arg16, arg17, arg18, arg19]
  let (t0, t1, t2, t3, t4, t5, t6, t7, t8, t9, t10, t11, t12, t13, t14, t15, t16, t17, t18, t19, t20, t21, t22, t23, t24, t25, t26, t27, t28, t29, t30, t31, t32, t33, t34, t35, t36, t37, t38, t39, t40, t41, t42, t43, t44, t45, t46, t47, t48, t49, t50, t51, t52, t53, t54, t55, t56, t57, t58, t59, t60, t61, t62, t63) ←
    Scf.Loop.for k1_t1_loop k1_t1_ok (pk fun j => st0 (rm.getD j (k1_pay160 (constant S264x128 .f32 0x00000000#32))))
      (k1_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 iotaT iotaL iotaR (rm.getD 0 (k1_pay160 (constant S264x128 .f32 0x00000000#32))) (rm.getD 1 (k1_pay160 (constant S264x128 .f32 0x00000000#32))) (rm.getD 2 (k1_pay160 (constant S264x128 .f32 0x00000000#32))) (rm.getD 3 (k1_pay160 (constant S264x128 .f32 0x00000000#32))) (rm.getD 4 (k1_pay160 (constant S264x128 .f32 0x00000000#32))) (rm.getD 5 (k1_pay160 (constant S264x128 .f32 0x00000000#32))) (rm.getD 6 (k1_pay160 (constant S264x128 .f32 0x00000000#32))) (rm.getD 7 (k1_pay160 (constant S264x128 .f32 0x00000000#32))) (rm.getD 8 (k1_pay160 (constant S264x128 .f32 0x00000000#32))) (rm.getD 9 (k1_pay160 (constant S264x128 .f32 0x00000000#32))))
  let cs ← gatherL arg1 arg2 [(0, t16, t32, t48), (1, t17, t33, t49), (2, t18, t34, t50), (3, t19, t35, t51), (4, t20, t36, t52), (5, t21, t37, t53), (6, t22, t38, t54), (7, t23, t39, t55), (8, t24, t40, t56), (9, t25, t41, t57), (10, t26, t42, t58), (11, t27, t43, t59), (12, t28, t44, t60), (13, t29, t45, t61), (14, t30, t46, t62), (15, t31, t47, t63)]
  let (k0, k1, k2, k3, k4, k5, k6, k7, k8, k9, k10, k11, k12, k13, k14, k15, _) : FVec F S1x384 .f32 × FVec F S1x384 .f32 × FVec F S1x384 .f32 × FVec F S1x384 .f32 × FVec F S1x384 .f32 × FVec F S1x384 .f32 × FVec F S1x384 .f32 × FVec F S1x384 .f32 × FVec F S1x384 .f32 × FVec F S1x384 .f32 × FVec F S1x384 .f32 × FVec F S1x384 .f32 × FVec F S1x384 .f32 × FVec F S1x384 .f32 × FVec F S1x384 .f32 × FVec F S1x384 .f32 × BitVec 1 ← Prog.lift (.call (2 : (Λ₀ F).Label) ⟨cand (cs.getD 0 colsZ), cand (cs.getD 1 colsZ), cand (cs.getD 2 colsZ), cand (cs.getD 3 colsZ), cand (cs.getD 4 colsZ), cand (cs.getD 5 colsZ), cand (cs.getD 6 colsZ), cand (cs.getD 7 colsZ), cand (cs.getD 8 colsZ), cand (cs.getD 9 colsZ), cand (cs.getD 10 colsZ), cand (cs.getD 11 colsZ), cand (cs.getD 12 colsZ), cand (cs.getD 13 colsZ), cand (cs.getD 14 colsZ), cand (cs.getD 15 colsZ), ones, ones, ones, ones, ones, ones, ones, ones, ones, ones, ones, ones, ones, ones, ones, ones, 1#1⟩)
  outL arg3 [(0, cs.getD 0 colsZ, k0), (1, cs.getD 1 colsZ, k1), (2, cs.getD 2 colsZ, k2), (3, cs.getD 3 colsZ, k3), (4, cs.getD 4 colsZ, k4), (5, cs.getD 5 colsZ, k5), (6, cs.getD 6 colsZ, k6), (7, cs.getD 7 colsZ, k7), (8, cs.getD 8 colsZ, k8), (9, cs.getD 9 colsZ, k9), (10, cs.getD 10 colsZ, k10), (11, cs.getD 11 colsZ, k11), (12, cs.getD 12 colsZ, k12), (13, cs.getD 13 colsZ, k13), (14, cs.getD 14 colsZ, k14), (15, cs.getD 15 colsZ, k15)]

end Cert.Proof
-- ==== Proof.SelRun.lean ====
module

public import proofs.«01_k».proof.Proof.Pays
public import proofs.«01_k».proof.Proof.Select
public import Idealize.ShloMosaic.Lib.VecWindow
public import Idealize.ShloMosaic.Lib.Memref
@[expose] public section
set_option maxRecDepth 65536
noncomputable section
namespace Cert.Proof
open Idealize.ShloMosaic Idealize.SL.Sem Cert.KernelIdeal Cert.KernelIdeal.Gen
open Idealize.SL Idealize.SL.RA Idealize.SL.BI
open scoped Idealize.SL.BI
open Idealize.SL.BI.BIBase Idealize.SL.BI.Laws Idealize.SL.ProofMode
open Idealize.ShloMosaic.Rounds

/-- The algebra the runs below are stated at. -/
abbrev UU : Type := URounds (GSem nD τ sig) Unit
/-- Assertions about the machine. -/
abbrev PP : Type := sProp (MT nD τ sig Unit (Elt Ideal) ℕ UU ℕ)
/-- A device's core runs a program to a postcondition. -/
abbrev run {α : Type} (d : Dev nD) (E : Set ℕ) (p : Prog (TpuEff nD τ sig (Elt Ideal) (Λ₀ Ideal) .tc) α) (Q : α → PP) : PP :=
  wp frame (wpE (defs₀ (F := Ideal)) Variants.nat (d.tc : Thread nD τ) none) E p Q
/-- A device's core owns a buffer at contents. -/
abbrev own (d : Dev nD) {cs : Space} {s : Shape} {e : EltTy} (m : Memref sig .tc cs s e) (X : s.Idx → Elt Ideal e) : PP :=
  owns (d.tc : Thread nD τ) m fullShare X

variable (d : Dev nD) (E : Set ℕ) {α : Type} (Q : α → PP)

theorem run_ret (x : α) : Q x ⊢ run d E (Prog.ret x) Q := by
  unfold run
  rw [wp_ret]
  iintro H
  imodintro
  iexact H

theorem own_load {cs : CoreSpace} {s : Shape} {e : EltTy} (m : Memref sig .tc cs s e) (r : LoadRect s) (hl : m.view.LoadsAt r)
    (k : (r.shape.Idx → Elt Ideal e) → Prog (TpuEff nD τ sig (Elt Ideal) (Λ₀ Ideal) .tc) α) (X : s.Idx → Elt Ideal e) :
    own d m X ⊢ iprop((own d m X -∗ run d E (k fun y => X (r.idx y)) Q) -∗ run d E (.op (.load m r hl) k) Q) := by
  unfold own owns run
  iintro ⟨%f, %hf, H⟩ K
  iapply (wp_load Variants.nat (d.tc : Thread nD τ) none E (m := m) (View.setOn_subset_set _ _)) $$ H
  iintro H
  have e : m.view.readAt (Elt Ideal) r f = fun y => X (r.idx y) := by rw [← hf]; rfl
  rw [e]
  iapply K
  iexists f
  isplitr
  · ipureintro; exact hf
  · iexact H

theorem own_store {cs : CoreSpace} {s : Shape} {e : EltTy} (m : Memref sig .tc cs s e) {off size : Fin s.rank → ℕ} (inb : ∀ a, off a + size a ≤ s.size a)
    (w : (Rect.unit off size inb).shape.Idx → Elt Ideal e) (hx : (m.access (Rect.unit off size inb)).Stores Finset.univ) (hm)
    (k : PUnit → Prog (TpuEff nD τ sig (Elt Ideal) (Λ₀ Ideal) .tc) α) (X : s.Idx → Elt Ideal e) :
    own d m X ⊢ iprop((own d m (VecWindow.put X off size w) -∗ run d E (k ⟨⟩) Q) -∗ run d E (.op (.store m (Rect.unit off size inb) w Finset.univ hx hm) k) Q) := by
  unfold own owns run
  iintro ⟨%f, %hf, H⟩ K
  iapply (wp_store Variants.nat (d.tc : Thread nD τ) none E (m := m) (r := Rect.unit off size inb) (Mk := Finset.univ)
    (show (m.access (Rect.unit off size inb)).setOn Finset.univ ⊆ m.view.set from View.set_slice_subset _ _)) $$ H
  iintro H
  iapply K
  iexists _
  isplitr
  · ipureintro
    exact (View.read_writes_cons_put m.view f inb w [] rfl).trans (by rw [← hf]; rfl)
  · iexact H

/-! ## Lists of buffers -/

/-- The core owns every buffer of a list at its contents. -/
def ownL : List (Memref sig .tc .vmem S264x128 .f32 × FVec Ideal S264x128 .f32) → PP
  | [] => iprop(emp)
  | x :: l => iprop(own d x.1 x.2 ∗ ownL l)

/-- One batch entry's plane of a block of sixteen. -/
def planeOf (A : FVec Ideal S16x264x128 .f32) (b : Fin 16) : Vec Ideal S1x264x128 .f32 :=
  fun y => A ((Rect.unit (s := S16x264x128) ![b.val, 0, 0] S1x264x128.size (inb_plane b)).toLoadRect.idx y)
/-- One batch entry's plane of a block of sixteen times four. -/
def boxOf (A : FVec Ideal S16x4x264x128 .f32) (b : Fin 16) (j : Fin 4) : Vec Ideal S1x1x264x128 .f32 :=
  fun y => A ((Rect.unit (s := S16x4x264x128) ![b.val, j.val, 0, 0] S1x1x264x128.size (inb_box b j)).toLoadRect.idx y)

theorem full_idx (y : S264x128.Idx) : (Rect.unit (s := S264x128) ![0, 0] S264x128.size inb_S264x128_S264x128_0_0).toLoadRect.idx y = y := by
  funext a
  refine Fin.ext ?_
  match a with
  | 0 => show 0 + 1 * (y 0).val = (y 0).val; omega
  | 1 => show 0 + 1 * (y 1).val = (y 1).val; omega

theorem put_full (X w : FVec Ideal S264x128 .f32) : VecWindow.put (s := S264x128) X ![0, 0] S264x128.size w = w := by
  funext y
  have h : ∀ a, (![0, 0] : Fin 2 → ℕ) a ≤ (y a).val ∧ (y a).val < (![0, 0] : Fin 2 → ℕ) a + S264x128.size a := fun a => by
    have := (y a).isLt
    match a with
    | 0 => exact ⟨Nat.zero_le _, by show (y 0).val < 0 + S264x128.size 0; omega⟩
    | 1 => exact ⟨Nat.zero_le _, by show (y 1).val < 0 + S264x128.size 1; omega⟩
  refine (dif_pos h).trans (congrArg w (funext fun a => Fin.ext ?_))
  match a with
  | 0 => exact Nat.sub_zero _
  | 1 => exact Nat.sub_zero _

theorem run_setup (smax : Memref sig .tc .vmem S16x264x128 .f32) (A : FVec Ideal S16x264x128 .f32) (L : List (Fin 16 × Memref sig .tc .vmem S264x128 .f32 × FVec Ideal S264x128 .f32))
    (kk : PUnit → Prog (TpuEff nD τ sig (Elt Ideal) (Λ₀ Ideal) .tc) α) :
    iprop(own d smax A ∗ ownL d (L.map fun x => x.2))
      ⊢ iprop((own d smax A -∗ ownL d (L.map fun x => (x.2.1, k1_pay143 (planeOf A x.1))) -∗ run d E (kk ⟨⟩) Q)
        -∗ run d E (setupL smax (L.map fun x => (x.1, x.2.1)) >>= kk) Q) := by
  induction L generalizing kk with
  | nil =>
    simp only [List.map_nil, ownL, setupL, Prog.pure_eq_ret, Prog.bind_ret]
    iintro ⟨H, L⟩ K
    iapply K $$ H L
  | cons x l ih =>
    obtain ⟨b, m, X⟩ := x
    simp only [List.map_cons, ownL, setupL, bind_assoc, Prog.bind_op, Prog.bind_ret, Prog.pure_eq_ret, Prog.lift]
    iintro ⟨H, HX, L⟩ K
    iapply (own_load d E Q smax) $$ H
    iintro H
    iapply (own_load d E Q m) $$ HX
    iintro HX
    iapply (own_store d E Q m) $$ HX
    iintro HX
    iapply (ih kk) $$ [H L]
    · isplitl [H] <;> iassumption
    · iintro H L
      iapply K $$ H
      isplitl [HX]
      · rw [put_full]
        iexact HX
      · iexact L

theorem own_load_full (m : Memref sig .tc .vmem S264x128 .f32) (hl) (k : FVec Ideal S264x128 .f32 → Prog (TpuEff nD τ sig (Elt Ideal) (Λ₀ Ideal) .tc) α) (X : FVec Ideal S264x128 .f32) :
    own d m X ⊢ iprop((own d m X -∗ run d E (k X) Q)
      -∗ run d E (.op (.load m (Rect.unit (s := S264x128) ![0, 0] S264x128.size inb_S264x128_S264x128_0_0).toLoadRect hl) k) Q) := by
  have h := own_load d E Q m (Rect.unit (s := S264x128) ![0, 0] S264x128.size inb_S264x128_S264x128_0_0).toLoadRect hl k X
  rw [show (fun y => X ((Rect.unit (s := S264x128) ![0, 0] S264x128.size inb_S264x128_S264x128_0_0).toLoadRect.idx y)) = X from funext fun y => congrArg X (full_idx y)] at h
  exact h

theorem run_rowMax (L : List (Memref sig .tc .vmem S264x128 .f32 × FVec Ideal S264x128 .f32))
    (kk : List (FVec Ideal S1x264 .f32) → Prog (TpuEff nD τ sig (Elt Ideal) (Λ₀ Ideal) .tc) α) :
    ownL d L ⊢ iprop((ownL d L -∗ run d E (kk (L.map fun x => k1_pay160 x.2)) Q) -∗ run d E (rowMaxL (L.map fun x => x.1) >>= kk) Q) := by
  induction L generalizing kk with
  | nil =>
    simp only [List.map_nil, ownL, rowMaxL, Prog.pure_eq_ret, Prog.bind_ret]
    iintro L K
    iapply K $$ L
  | cons x l ih =>
    obtain ⟨m, X⟩ := x
    simp only [List.map_cons, ownL, rowMaxL, bind_assoc, Prog.bind_op, Prog.bind_ret, Prog.pure_eq_ret, Prog.lift]
    iintro ⟨HX, L⟩ K
    iapply (own_load_full d E Q m) $$ HX
    iintro HX
    iapply (ih _) $$ L
    iintro L
    iapply K
    isplitl [HX] <;> iassumption

/-! ## One selection -/

/-- A row of the scores. -/
def rowVec (X : FVec Ideal S264x128 .f32) (i : Fin 264) : Vec Ideal S1x128 .f32 := fun y => X (ix2 i (y 1))
/-- The state after one selection. -/
def stepSt (k : Fin k1_t1_loop.trips) (X : FVec Ideal S264x128 .f32) (s : St Ideal) : St Ideal :=
  ⟨k1_pay9 iotaL iotaR s.rm (rowVec X (selRow s.rm)), k1_pay10 iotaT iotaR 0#32 1#32 k s.rm s.rT, k1_pay11 iotaT iotaL 0#32 1#32 k s.rm s.cT (rowVec X (selRow s.rm)), k1_pay12 iotaT 0#32 1#32 k s.rm s.cf⟩
/-- The scores after one selection. -/
def stepX (X : FVec Ideal S264x128 .f32) (s : St Ideal) : FVec Ideal S264x128 .f32 :=
  VecWindow.put (s := S264x128) X ![(selRow s.rm).val, 0] S1x128.size (k1_pay8 iotaL s.rm (rowVec X (selRow s.rm)))

theorem row_idx (X : FVec Ideal S264x128 .f32) (i : Fin 264) (off : Fin 2 → ℕ) (h : off = ![i.val, 0]) (inb : ∀ a, off a + S1x128.size a ≤ S264x128.size a) :
    (fun y => X ((Rect.unit (s := S264x128) off S1x128.size inb).toLoadRect.idx y)) = rowVec X i := by
  subst h
  funext y
  refine congrArg X (funext fun a => Fin.ext ?_)
  match a with
  | 0 =>
    have h : (y 0).val < 1 := (y 0).isLt
    show i.val + 1 * (y 0).val = i.val
    omega
  | 1 => show 0 + 1 * (y 1).val = (y 1).val; omega

theorem run_topStep (m : Memref sig .tc .vmem S264x128 .f32) (k : Fin k1_t1_loop.trips) (X : FVec Ideal S264x128 .f32) (s : St Ideal)
    (kk : St Ideal → Prog (TpuEff nD τ sig (Elt Ideal) (Λ₀ Ideal) .tc) α) :
    own d m X ⊢ iprop((own d m (stepX X s) -∗ run d E (kk (stepSt k X s)) Q) -∗ run d E (topStep m iotaT iotaL iotaR k s >>= kk) Q) := by
  simp only [topStep, Prog.bind_op, Prog.bind_ret, Prog.pure_eq_ret, Prog.lift]
  have hr : extractAt ![0, 0, 0] (k1_pay6 iotaR s.rm) inpos_S1x1x1_p0_0_0 = BitVec.ofNat 32 (selRow s.rm).val := pay6_eq s.rm
  have hc : k1_chk1 (extractAt ![0, 0, 0] (k1_pay6 iotaR s.rm) inpos_S1x1x1_p0_0_0) := by rw [hr]; exact chk_row _
  have ho : k1_off1 (extractAt ![0, 0, 0] (k1_pay6 iotaR s.rm) inpos_S1x1x1_p0_0_0) = ![(selRow s.rm).val, 0] := by rw [hr]; exact off_row _
  iintro H K
  iapply (wp_assume Variants.nat (d.tc : Thread nD τ) none E hc)
  iapply (own_load d E Q m) $$ H
  iintro H
  iapply (own_load d E Q m) $$ H
  iintro H
  iapply (own_store d E Q m) $$ H
  iintro H
  rw [row_idx X (selRow s.rm) _ ho, ho]
  iapply K
  iexact H

theorem run_trip (k : Fin k1_t1_loop.trips) (L : List (Memref sig .tc .vmem S264x128 .f32 × FVec Ideal S264x128 .f32 × St Ideal))
    (kk : List (St Ideal) → Prog (TpuEff nD τ sig (Elt Ideal) (Λ₀ Ideal) .tc) α) :
    ownL d (L.map fun x => (x.1, x.2.1)) ⊢ iprop((ownL d (L.map fun x => (x.1, stepX x.2.1 x.2.2)) -∗ run d E (kk (L.map fun x => stepSt k x.2.1 x.2.2)) Q)
      -∗ run d E (tripL iotaT iotaL iotaR k (L.map fun x => (x.1, x.2.2)) >>= kk) Q) := by
  induction L generalizing kk with
  | nil =>
    simp only [List.map_nil, ownL, tripL, Prog.pure_eq_ret, Prog.bind_ret]
    iintro L K
    iapply K $$ L
  | cons x l ih =>
    obtain ⟨m, X, s⟩ := x
    simp only [List.map_cons, ownL, tripL, bind_assoc, Prog.bind_ret, Prog.pure_eq_ret]
    iintro ⟨HX, L⟩ K
    iapply (run_topStep d E Q m) $$ HX
    iintro HX
    iapply (ih _) $$ L
    iintro L
    iapply K
    isplitl [HX] <;> iassumption

end Cert.Proof
-- ==== Proof.SelAll.lean ====
module

public import proofs.«01_k».proof.Proof.SelRun
@[expose] public section
set_option maxRecDepth 65536
noncomputable section
namespace Cert.Proof
open Idealize.ShloMosaic Idealize.SL.Sem Cert.KernelIdeal Cert.KernelIdeal.Gen
open Idealize.SL Idealize.SL.RA Idealize.SL.BI
open scoped Idealize.SL.BI
open Idealize.SL.BI.BIBase Idealize.SL.BI.Laws Idealize.SL.ProofMode
open Idealize.ShloMosaic.Rounds

/-! ## What suppresses what -/

/-- The pairs whose overlap ratio is above the threshold, the later one suppressed. -/
def supp (c : Cols Ideal) : Fin 384 → Fin 384 → Bool := fun i j =>
  decide (Ideal.ofBits .f32 0x3F333333#32 < ratio (subf c.cx (half c.w)) (subf c.cy (half c.h)) (addf c.cx (half c.w)) (addf c.cy (half c.h))
    (mulf (subf (addf c.cx (half c.w)) (subf c.cx (half c.w))) (subf (addf c.cy (half c.h)) (subf c.cy (half c.h)))) (ix2 i j)) && decide (i < j)

theorem supp_upper (c : Cols Ideal) : Upper (supp c) := fun i j h => by
  unfold supp at h
  simp only [Bool.and_eq_true, decide_eq_true_eq] at h
  exact h.2

theorem sel_num (a b : Bool) : Scalar.select (IntOp.andi (BitVec.ofBool a) (BitVec.ofBool b)) (1 : EReal) 0 = num (a && b) := by
  cases a <;> cases b <;> rfl

theorem cand_eq (c : Cols Ideal) : cand c = sqOf (supp c) := by
  funext j
  show _ = num (supp c (j 0) (j 1))
  unfold cand candOf supp iotaCol iotaRow
  pointwise
  have e : IntOp.cmpi CmpIPredicate.sgt (BitVec.ofNat 32 (j 1).val) (BitVec.ofNat 32 (j 0).val) = BitVec.ofBool (decide (j 0 < j 1)) := by
    have h0 : (j 0).val < 384 := (j 0).isLt
    have h1 : (j 1).val < 384 := (j 1).isLt
    show BitVec.ofBool ((BitVec.ofNat 32 (j 0).val).slt (BitVec.ofNat 32 (j 1).val)) = _
    refine congrArg BitVec.ofBool (Bool.eq_iff_iff.mpr ?_)
    rw [BitVec.slt_iff_toInt_lt, toInt_small _ (by omega), toInt_small _ (by omega), decide_eq_true_eq]
    exact Int.ofNat_lt
  rw [e]
  exact sel_num _ _

theorem ones_eq (S : ℕ → Fin 384 → Fin 384 → Bool) (b : ℕ) : (ones : FVec Ideal S1x384 .f32) = kRows S 0 b := by
  funext j
  show Ideal.ofBits .f32 0x3F800000#32 = num true
  rw [Ideal.ofBits_one_f32]
  rfl

/-! ## The selection loop -/

/-- Scores and state of one batch entry after `n` selections, from its scores. -/
def itr (X : FVec Ideal S264x128 .f32) : ℕ → FVec Ideal S264x128 .f32 × St Ideal
  | 0 => (X, st0 (k1_pay160 X))
  | n + 1 => if h : n < k1_t1_loop.trips then (stepX (itr X n).1 (itr X n).2, stepSt ⟨n, h⟩ (itr X n).1 (itr X n).2) else itr X n

theorem itr_succ (X : FVec Ideal S264x128 .f32) (k : Fin k1_t1_loop.trips) :
    itr X (k.val + 1) = (stepX (itr X k.val).1 (itr X k.val).2, stepSt k (itr X k.val).1 (itr X k.val).2) := dif_pos k.isLt

theorem itr_zero (X : FVec Ideal S264x128 .f32) : itr X 0 = (X, st0 (k1_pay160 X)) := rfl

attribute [irreducible] itr

theorem pk_congr {f g : ℕ → St Ideal} (h : ∀ j < 16, f j = g j) : pk f = pk g := by
  unfold pk
  rw [h 0 (by decide), h 1 (by decide), h 2 (by decide), h 3 (by decide), h 4 (by decide), h 5 (by decide), h 6 (by decide), h 7 (by decide), h 8 (by decide), h 9 (by decide), h 10 (by decide), h 11 (by decide), h 12 (by decide), h 13 (by decide), h 14 (by decide), h 15 (by decide)]

variable (d : Dev nD) (E : Set ℕ) {α : Type} (Q : α → PP)

/-- The sixteen scratch buffers with contents. -/
abbrev scrL (arg4 arg5 arg6 arg7 arg8 arg9 arg10 arg11 arg12 arg13 arg14 arg15 arg16 arg17 arg18 arg19 : Memref sig .tc .vmem S264x128 .f32) (f : ℕ → FVec Ideal S264x128 .f32) : List (Memref sig .tc .vmem S264x128 .f32 × FVec Ideal S264x128 .f32) :=
  [(arg4, f 0), (arg5, f 1), (arg6, f 2), (arg7, f 3), (arg8, f 4), (arg9, f 5), (arg10, f 6), (arg11, f 7), (arg12, f 8), (arg13, f 9), (arg14, f 10), (arg15, f 11), (arg16, f 12), (arg17, f 13), (arg18, f 14), (arg19, f 15)]

theorem run_loop (arg0 : Memref sig .tc .vmem S16x264x128 .f32) (harg0 : arg0.IsWhole) (arg1 : Memref sig .tc .vmem S16x264x128 .f32) (harg1 : arg1.IsWhole) (arg2 : Memref sig .tc .vmem S16x4x264x128 .f32) (harg2 : arg2.IsWhole) (arg3 : Memref sig .tc .vmem S16x300x6 .f32) (harg3 : arg3.IsWhole) (arg4 : Memref sig .tc .vmem S264x128 .f32) (harg4 : arg4.IsWhole) (arg5 : Memref sig .tc .vmem S264x128 .f32) (harg5 : arg5.IsWhole) (arg6 : Memref sig .tc .vmem S264x128 .f32) (harg6 : arg6.IsWhole) (arg7 : Memref sig .tc .vmem S264x128 .f32) (harg7 : arg7.IsWhole) (arg8 : Memref sig .tc .vmem S264x128 .f32) (harg8 : arg8.IsWhole) (arg9 : Memref sig .tc .vmem S264x128 .f32) (harg9 : arg9.IsWhole) (arg10 : Memref sig .tc .vmem S264x128 .f32) (harg10 : arg10.IsWhole) (arg11 : Memref sig .tc .vmem S264x128 .f32) (harg11 : arg11.IsWhole) (arg12 : Memref sig .tc .vmem S264x128 .f32) (harg12 : arg12.IsWhole) (arg13 : Memref sig .tc .vmem S264x128 .f32) (harg13 : arg13.IsWhole) (arg14 : Memref sig .tc .vmem S264x128 .f32) (harg14 : arg14.IsWhole) (arg15 : Memref sig .tc .vmem S264x128 .f32) (harg15 : arg15.IsWhole) (arg16 : Memref sig .tc .vmem S264x128 .f32) (harg16 : arg16.IsWhole) (arg17 : Memref sig .tc .vmem S264x128 .f32) (harg17 : arg17.IsWhole) (arg18 : Memref sig .tc .vmem S264x128 .f32) (harg18 : arg18.IsWhole) (arg19 : Memref sig .tc .vmem S264x128 .f32) (harg19 : arg19.IsWhole)
    (v85 v88 v91 v94 v97 v100 v103 v106 v109 v112 : FVec Ideal S1x264 .f32) (X : ℕ → FVec Ideal S264x128 .f32) (init) (hi : init = pk fun j => st0 (k1_pay160 (X j))) (kk : _ → Prog (TpuEff nD τ sig (Elt Ideal) (Λ₀ Ideal) .tc) α) :
    ownL d (scrL arg4 arg5 arg6 arg7 arg8 arg9 arg10 arg11 arg12 arg13 arg14 arg15 arg16 arg17 arg18 arg19 X) ⊢ iprop((ownL d (scrL arg4 arg5 arg6 arg7 arg8 arg9 arg10 arg11 arg12 arg13 arg14 arg15 arg16 arg17 arg18 arg19 fun j => (itr (X j) k1_t1_loop.trips).1) -∗ run d E (kk (pk fun j => (itr (X j) k1_t1_loop.trips).2)) Q)
      -∗ run d E (Scf.Loop.for k1_t1_loop k1_t1_ok init
        (k1_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 iotaT iotaL iotaR v85 v88 v91 v94 v97 v100 v103 v106 v109 v112) >>= kk) Q) := by
  have hb : ∀ (k : Fin k1_t1_loop.trips) acc,
      iprop(⌜acc = pk fun j => (itr (X j) k.val).2⌝ ∗ ownL d (scrL arg4 arg5 arg6 arg7 arg8 arg9 arg10 arg11 arg12 arg13 arg14 arg15 arg16 arg17 arg18 arg19 fun j => (itr (X j) k.val).1))
        ⊢ run d E (k1_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 iotaT iotaL iotaR v85 v88 v91 v94 v97 v100 v103 v106 v109 v112 k acc)
          fun acc => iprop(⌜acc = pk fun j => (itr (X j) (k.val + 1)).2⌝ ∗ ownL d (scrL arg4 arg5 arg6 arg7 arg8 arg9 arg10 arg11 arg12 arg13 arg14 arg15 arg16 arg17 arg18 arg19 fun j => (itr (X j) (k.val + 1)).1)) := by
    intro k acc
    iintro ⟨%h, L⟩
    subst h
    rw [body_eq (d := st0 (k1_pay160 (X 0)))]
    have h := run_trip d E (fun acc => iprop(⌜acc = pk fun j => (itr (X j) (k.val + 1)).2⌝ ∗ ownL d (scrL arg4 arg5 arg6 arg7 arg8 arg9 arg10 arg11 arg12 arg13 arg14 arg15 arg16 arg17 arg18 arg19 fun j => (itr (X j) (k.val + 1)).1))) k
      [(arg4, (itr (X 0) k.val).1, (itr (X 0) k.val).2), (arg5, (itr (X 1) k.val).1, (itr (X 1) k.val).2), (arg6, (itr (X 2) k.val).1, (itr (X 2) k.val).2), (arg7, (itr (X 3) k.val).1, (itr (X 3) k.val).2), (arg8, (itr (X 4) k.val).1, (itr (X 4) k.val).2), (arg9, (itr (X 5) k.val).1, (itr (X 5) k.val).2), (arg10, (itr (X 6) k.val).1, (itr (X 6) k.val).2), (arg11, (itr (X 7) k.val).1, (itr (X 7) k.val).2), (arg12, (itr (X 8) k.val).1, (itr (X 8) k.val).2), (arg13, (itr (X 9) k.val).1, (itr (X 9) k.val).2), (arg14, (itr (X 10) k.val).1, (itr (X 10) k.val).2), (arg15, (itr (X 11) k.val).1, (itr (X 11) k.val).2), (arg16, (itr (X 12) k.val).1, (itr (X 12) k.val).2), (arg17, (itr (X 13) k.val).1, (itr (X 13) k.val).2), (arg18, (itr (X 14) k.val).1, (itr (X 14) k.val).2), (arg19, (itr (X 15) k.val).1, (itr (X 15) k.val).2)] (fun g => pure (pk fun j => g.getD j (st0 (k1_pay160 (X 0)))))
    simp only [List.map_cons, List.map_nil] at h
    iapply h $$ L
    iintro L
    simp only [Prog.pure_eq_ret, scrL, itr_succ]
    iapply (run_ret d E)
    isplitr
    · ipureintro
      refine pk_congr fun j hj => ?_
      interval_cases j <;> rfl
    · iexact L
  subst hi
  have h0 : ownL d (scrL arg4 arg5 arg6 arg7 arg8 arg9 arg10 arg11 arg12 arg13 arg14 arg15 arg16 arg17 arg18 arg19 X) ⊢ iprop(⌜(pk fun j => st0 (k1_pay160 (X j))) = pk fun j => (itr (X j) 0).2⌝ ∗ ownL d (scrL arg4 arg5 arg6 arg7 arg8 arg9 arg10 arg11 arg12 arg13 arg14 arg15 arg16 arg17 arg18 arg19 fun j => (itr (X j) 0).1)) := by
    simp only [itr_zero]
    iintro L
    isplitr
    · ipureintro; trivial
    · iexact L
  iintro L K
  iapply (Scf.wp_for_bind frame (wpE (defs₀ (F := Ideal)) Variants.nat (d.tc : Thread nD τ) none) E _ _ _ k1_t1_ok _ _
    (fun n acc => iprop(⌜acc = pk fun j => (itr (X j) n).2⌝ ∗ ownL d (scrL arg4 arg5 arg6 arg7 arg8 arg9 arg10 arg11 arg12 arg13 arg14 arg15 arg16 arg17 arg18 arg19 fun j => (itr (X j) n).1))) hb) $$ [L]
  · iapply h0 $$ L
  · iintro %acc ⟨%h, L⟩
    subst h
    iapply K
    iexact L

/-! ## Gathering and writing -/

theorem run_gather (cls : Memref sig .tc .vmem S16x264x128 .f32) (box : Memref sig .tc .vmem S16x4x264x128 .f32) (C : FVec Ideal S16x264x128 .f32) (B : FVec Ideal S16x4x264x128 .f32)
    (L : List (Fin 16 × IVec S1x384 32 × IVec S1x384 32 × FVec Ideal S1x384 .f32)) (kk : List (Cols Ideal) → Prog (TpuEff nD τ sig (Elt Ideal) (Λ₀ Ideal) .tc) α) :
    iprop(own d cls C ∗ own d box B)
      ⊢ iprop((own d cls C -∗ own d box B -∗
          run d E (kk (L.map fun x => colsOf x.2.1 x.2.2.1 x.2.2.2 (boxOf B x.1 0) (boxOf B x.1 1) (boxOf B x.1 2) (boxOf B x.1 3) (planeOf C x.1))) Q)
        -∗ run d E (gatherL cls box L >>= kk) Q) := by
  induction L generalizing kk with
  | nil =>
    simp only [List.map_nil, gatherL, Prog.pure_eq_ret, Prog.bind_ret]
    iintro ⟨H, L⟩ K
    iapply K $$ H L
  | cons x l ih =>
    obtain ⟨b, rT, cT, cf⟩ := x
    simp only [List.map_cons, gatherL, bind_assoc, Prog.bind_op, Prog.bind_ret, Prog.pure_eq_ret, Prog.lift]
    iintro ⟨H, L⟩ K
    iapply (own_load d E Q box) $$ L
    iintro L
    iapply (own_load d E Q box) $$ L
    iintro L
    iapply (own_load d E Q box) $$ L
    iintro L
    iapply (own_load d E Q box) $$ L
    iintro L
    iapply (own_load d E Q cls) $$ H
    iintro H
    iapply (ih _) $$ [H L]
    · isplitl [H] <;> iassumption
    · iexact K

/-- The result's contents after the blocks of a list. -/
def outAll (O : FVec Ideal S16x300x6 .f32) : List (Fin 16 × Cols Ideal × FVec Ideal S1x384 .f32) → FVec Ideal S16x300x6 .f32
  | [] => O
  | x :: l => outAll (VecWindow.put (s := S16x300x6) O ![x.1.val, 0, 0] S1x300x6.size (outBlk x.2.1 x.2.2)) l

theorem run_out (o : Memref sig .tc .vmem S16x300x6 .f32) (O : FVec Ideal S16x300x6 .f32) (L : List (Fin 16 × Cols Ideal × FVec Ideal S1x384 .f32)) (Q : PUnit → PP) :
    own d o O ⊢ iprop((own d o (outAll O L) -∗ Q ⟨⟩) -∗ run d E (outL o L) Q) := by
  induction L generalizing O with
  | nil =>
    simp only [outL, outAll, Prog.pure_eq_ret]
    iintro H K
    iapply (run_ret d E)
    iapply K $$ H
  | cons x l ih =>
    obtain ⟨b, c, k⟩ := x
    simp only [outL, outAll, Prog.bind_op, Prog.bind_ret, Prog.lift]
    iintro H K
    iapply (own_load d E Q o) $$ H
    iintro H
    iapply (own_store d E Q o) $$ H
    iintro H
    iapply (ih _) $$ H
    iexact K

/-! ## The whole kernel -/

/-- A batch entry's scores as the kernel copies them. -/
def scores (A : FVec Ideal S16x264x128 .f32) (b : ℕ) : FVec Ideal S264x128 .f32 := k1_pay143 (planeOf A (Fin.ofNat 16 b))
/-- What is selected for a batch entry. -/
def selSt (A : FVec Ideal S16x264x128 .f32) (b : ℕ) : St Ideal := (itr (scores A b) k1_t1_loop.trips).2
/-- The columns kept for a batch entry. -/
def selCols (A C : FVec Ideal S16x264x128 .f32) (B : FVec Ideal S16x4x264x128 .f32) (b : ℕ) : Cols Ideal :=
  colsOf (selSt A b).rT (selSt A b).cT (selSt A b).cf (boxOf B (Fin.ofNat 16 b) 0) (boxOf B (Fin.ofNat 16 b) 1) (boxOf B (Fin.ofNat 16 b) 2) (boxOf B (Fin.ofNat 16 b) 3) (planeOf C (Fin.ofNat 16 b))
/-- The kept row of a batch entry. -/
def selKeep (A C : FVec Ideal S16x264x128 .f32) (B : FVec Ideal S16x4x264x128 .f32) (b : ℕ) : FVec Ideal S1x384 .f32 := rowOf (nmFix (supp (selCols A C B b)))
/-- The sixteen blocks written. -/
abbrev outList (A C : FVec Ideal S16x264x128 .f32) (B : FVec Ideal S16x4x264x128 .f32) : List (Fin 16 × Cols Ideal × FVec Ideal S1x384 .f32) :=
  [(0, selCols A C B 0, selKeep A C B 0), (1, selCols A C B 1, selKeep A C B 1), (2, selCols A C B 2, selKeep A C B 2), (3, selCols A C B 3, selKeep A C B 3), (4, selCols A C B 4, selKeep A C B 4), (5, selCols A C B 5, selKeep A C B 5), (6, selCols A C B 6, selKeep A C B 6), (7, selCols A C B 7, selKeep A C B 7), (8, selCols A C B 8, selKeep A C B 8), (9, selCols A C B 9, selKeep A C B 9), (10, selCols A C B 10, selKeep A C B 10), (11, selCols A C B 11, selKeep A C B 11), (12, selCols A C B 12, selKeep A C B 12), (13, selCols A C B 13, selKeep A C B 13), (14, selCols A C B 14, selKeep A C B 14), (15, selCols A C B 15, selKeep A C B 15)]

attribute [local irreducible] nmFix

theorem run_setup16 (arg0 : Memref sig .tc .vmem S16x264x128 .f32) (arg4 arg5 arg6 arg7 arg8 arg9 arg10 arg11 arg12 arg13 arg14 arg15 arg16 arg17 arg18 arg19 : Memref sig .tc .vmem S264x128 .f32) (A : FVec Ideal S16x264x128 .f32) (X : ℕ → FVec Ideal S264x128 .f32)
    (kk : PUnit → Prog (TpuEff nD τ sig (Elt Ideal) (Λ₀ Ideal) .tc) α) :
    iprop(own d arg0 A ∗ ownL d (scrL arg4 arg5 arg6 arg7 arg8 arg9 arg10 arg11 arg12 arg13 arg14 arg15 arg16 arg17 arg18 arg19 X))
      ⊢ iprop((own d arg0 A -∗ ownL d (scrL arg4 arg5 arg6 arg7 arg8 arg9 arg10 arg11 arg12 arg13 arg14 arg15 arg16 arg17 arg18 arg19 (scores A)) -∗ run d E (kk ⟨⟩) Q)
        -∗ run d E (setupL arg0 [(0, arg4), (1, arg5), (2, arg6), (3, arg7), (4, arg8), (5, arg9), (6, arg10), (7, arg11), (8, arg12), (9, arg13), (10, arg14), (11, arg15), (12, arg16), (13, arg17), (14, arg18), (15, arg19)] >>= kk) Q) :=
  run_setup d E Q arg0 A [(0, arg4, X 0), (1, arg5, X 1), (2, arg6, X 2), (3, arg7, X 3), (4, arg8, X 4), (5, arg9, X 5), (6, arg10, X 6), (7, arg11, X 7), (8, arg12, X 8), (9, arg13, X 9), (10, arg14, X 10), (11, arg15, X 11), (12, arg16, X 12), (13, arg17, X 13), (14, arg18, X 14), (15, arg19, X 15)] kk

theorem run_rowMax16 (arg4 arg5 arg6 arg7 arg8 arg9 arg10 arg11 arg12 arg13 arg14 arg15 arg16 arg17 arg18 arg19 : Memref sig .tc .vmem S264x128 .f32) (X : ℕ → FVec Ideal S264x128 .f32)
    (kk : List (FVec Ideal S1x264 .f32) → Prog (TpuEff nD τ sig (Elt Ideal) (Λ₀ Ideal) .tc) α) :
    ownL d (scrL arg4 arg5 arg6 arg7 arg8 arg9 arg10 arg11 arg12 arg13 arg14 arg15 arg16 arg17 arg18 arg19 X) ⊢ iprop((ownL d (scrL arg4 arg5 arg6 arg7 arg8 arg9 arg10 arg11 arg12 arg13 arg14 arg15 arg16 arg17 arg18 arg19 X) -∗ run d E (kk [k1_pay160 (X 0), k1_pay160 (X 1), k1_pay160 (X 2), k1_pay160 (X 3), k1_pay160 (X 4), k1_pay160 (X 5), k1_pay160 (X 6), k1_pay160 (X 7), k1_pay160 (X 8), k1_pay160 (X 9), k1_pay160 (X 10), k1_pay160 (X 11), k1_pay160 (X 12), k1_pay160 (X 13), k1_pay160 (X 14), k1_pay160 (X 15)]) Q)
      -∗ run d E (rowMaxL [arg4, arg5, arg6, arg7, arg8, arg9, arg10, arg11, arg12, arg13, arg14, arg15, arg16, arg17, arg18, arg19] >>= kk) Q) :=
  by
  have h := run_rowMax d E Q (scrL arg4 arg5 arg6 arg7 arg8 arg9 arg10 arg11 arg12 arg13 arg14 arg15 arg16 arg17 arg18 arg19 X) kk
  simp only [List.map_cons, List.map_nil] at h
  exact h

set_option maxHeartbeats 8000000 in
theorem run_gather16 (arg1 : Memref sig .tc .vmem S16x264x128 .f32) (arg2 : Memref sig .tc .vmem S16x4x264x128 .f32) (A C : FVec Ideal S16x264x128 .f32) (B : FVec Ideal S16x4x264x128 .f32)
    (kk : List (Cols Ideal) → Prog (TpuEff nD τ sig (Elt Ideal) (Λ₀ Ideal) .tc) α) :
    iprop(own d arg1 C ∗ own d arg2 B)
      ⊢ iprop((own d arg1 C -∗ own d arg2 B -∗ run d E (kk [selCols A C B 0, selCols A C B 1, selCols A C B 2, selCols A C B 3, selCols A C B 4, selCols A C B 5, selCols A C B 6, selCols A C B 7, selCols A C B 8, selCols A C B 9, selCols A C B 10, selCols A C B 11, selCols A C B 12, selCols A C B 13, selCols A C B 14, selCols A C B 15]) Q)
        -∗ run d E (gatherL arg1 arg2 [(0, (selSt A 0).rT, (selSt A 0).cT, (selSt A 0).cf), (1, (selSt A 1).rT, (selSt A 1).cT, (selSt A 1).cf), (2, (selSt A 2).rT, (selSt A 2).cT, (selSt A 2).cf), (3, (selSt A 3).rT, (selSt A 3).cT, (selSt A 3).cf), (4, (selSt A 4).rT, (selSt A 4).cT, (selSt A 4).cf), (5, (selSt A 5).rT, (selSt A 5).cT, (selSt A 5).cf), (6, (selSt A 6).rT, (selSt A 6).cT, (selSt A 6).cf), (7, (selSt A 7).rT, (selSt A 7).cT, (selSt A 7).cf), (8, (selSt A 8).rT, (selSt A 8).cT, (selSt A 8).cf), (9, (selSt A 9).rT, (selSt A 9).cT, (selSt A 9).cf), (10, (selSt A 10).rT, (selSt A 10).cT, (selSt A 10).cf), (11, (selSt A 11).rT, (selSt A 11).cT, (selSt A 11).cf), (12, (selSt A 12).rT, (selSt A 12).cT, (selSt A 12).cf), (13, (selSt A 13).rT, (selSt A 13).cT, (selSt A 13).cf), (14, (selSt A 14).rT, (selSt A 14).cT, (selSt A 14).cf), (15, (selSt A 15).rT, (selSt A 15).cT, (selSt A 15).cf)] >>= kk) Q) :=
  run_gather d E Q arg1 arg2 C B [(0, (selSt A 0).rT, (selSt A 0).cT, (selSt A 0).cf), (1, (selSt A 1).rT, (selSt A 1).cT, (selSt A 1).cf), (2, (selSt A 2).rT, (selSt A 2).cT, (selSt A 2).cf), (3, (selSt A 3).rT, (selSt A 3).cT, (selSt A 3).cf), (4, (selSt A 4).rT, (selSt A 4).cT, (selSt A 4).cf), (5, (selSt A 5).rT, (selSt A 5).cT, (selSt A 5).cf), (6, (selSt A 6).rT, (selSt A 6).cT, (selSt A 6).cf), (7, (selSt A 7).rT, (selSt A 7).cT, (selSt A 7).cf), (8, (selSt A 8).rT, (selSt A 8).cT, (selSt A 8).cf), (9, (selSt A 9).rT, (selSt A 9).cT, (selSt A 9).cf), (10, (selSt A 10).rT, (selSt A 10).cT, (selSt A 10).cf), (11, (selSt A 11).rT, (selSt A 11).cT, (selSt A 11).cf), (12, (selSt A 12).rT, (selSt A 12).cT, (selSt A 12).cf), (13, (selSt A 13).rT, (selSt A 13).cT, (selSt A 13).cf), (14, (selSt A 14).rT, (selSt A 14).cT, (selSt A 14).cf), (15, (selSt A 15).rT, (selSt A 15).cT, (selSt A 15).cf)] kk

/-- The kept rows that the loop ends with, from everything kept. -/
theorem run_while (c : ℕ → Cols Ideal) (kk : (Λ₀ Ideal).Result (2 : (Λ₀ Ideal).Label) → Prog (TpuEff nD τ sig (Elt Ideal) (Λ₀ Ideal) .tc) α) :
    run d E (kk (wRes (fun b => rowOf (nmFix (supp (c b)))) 0#1)) Q
      ⊢ run d E (.op (.call (2 : (Λ₀ Ideal).Label) (wArgs (fun b => cand (c b)) (fun _ => ones) 1#1)) kk) Q := by
  have e1 : (fun b => cand (c b)) = fun b => sqOf (supp (c b)) := funext fun b => cand_eq (c b)
  have e2 : (fun _ => ones) = kRows (fun b => supp (c b)) 0 := funext fun b => ones_eq (fun b => supp (c b)) b
  rw [e1, e2]
  exact (while_wp d E (fun b => supp (c b)) (fun b => supp_upper (c b)) 385 (fun x => run d E (kk x) Q) 0 rfl 1#1 (fun h => absurd h (by decide)) (fun h => absurd h (by decide))).trans
    (wp_call Variants.nat (d.tc : Thread nD τ) none E 385 (fun u hu => nomatch hu))

set_option maxHeartbeats 8000000 in
/-- The kernel run from its blocks and scratch buffers. -/
theorem run_select (arg0 : Memref sig .tc .vmem S16x264x128 .f32) (harg0 : arg0.IsWhole) (arg1 : Memref sig .tc .vmem S16x264x128 .f32) (harg1 : arg1.IsWhole) (arg2 : Memref sig .tc .vmem S16x4x264x128 .f32) (harg2 : arg2.IsWhole) (arg3 : Memref sig .tc .vmem S16x300x6 .f32) (harg3 : arg3.IsWhole) (arg4 : Memref sig .tc .vmem S264x128 .f32) (harg4 : arg4.IsWhole) (arg5 : Memref sig .tc .vmem S264x128 .f32) (harg5 : arg5.IsWhole) (arg6 : Memref sig .tc .vmem S264x128 .f32) (harg6 : arg6.IsWhole) (arg7 : Memref sig .tc .vmem S264x128 .f32) (harg7 : arg7.IsWhole) (arg8 : Memref sig .tc .vmem S264x128 .f32) (harg8 : arg8.IsWhole) (arg9 : Memref sig .tc .vmem S264x128 .f32) (harg9 : arg9.IsWhole) (arg10 : Memref sig .tc .vmem S264x128 .f32) (harg10 : arg10.IsWhole) (arg11 : Memref sig .tc .vmem S264x128 .f32) (harg11 : arg11.IsWhole) (arg12 : Memref sig .tc .vmem S264x128 .f32) (harg12 : arg12.IsWhole) (arg13 : Memref sig .tc .vmem S264x128 .f32) (harg13 : arg13.IsWhole) (arg14 : Memref sig .tc .vmem S264x128 .f32) (harg14 : arg14.IsWhole) (arg15 : Memref sig .tc .vmem S264x128 .f32) (harg15 : arg15.IsWhole) (arg16 : Memref sig .tc .vmem S264x128 .f32) (harg16 : arg16.IsWhole) (arg17 : Memref sig .tc .vmem S264x128 .f32) (harg17 : arg17.IsWhole) (arg18 : Memref sig .tc .vmem S264x128 .f32) (harg18 : arg18.IsWhole) (arg19 : Memref sig .tc .vmem S264x128 .f32) (harg19 : arg19.IsWhole)
    (A C : FVec Ideal S16x264x128 .f32) (B : FVec Ideal S16x4x264x128 .f32) (O : FVec Ideal S16x300x6 .f32) (X : ℕ → FVec Ideal S264x128 .f32) (Q : PUnit → PP) :
    iprop(own d arg0 A ∗ own d arg1 C ∗ own d arg2 B ∗ own d arg3 O ∗ ownL d (scrL arg4 arg5 arg6 arg7 arg8 arg9 arg10 arg11 arg12 arg13 arg14 arg15 arg16 arg17 arg18 arg19 X))
      ⊢ iprop((own d arg0 A -∗ own d arg1 C -∗ own d arg2 B -∗ own d arg3 (outAll O (outList A C B)) -∗
          ownL d (scrL arg4 arg5 arg6 arg7 arg8 arg9 arg10 arg11 arg12 arg13 arg14 arg15 arg16 arg17 arg18 arg19 fun j => (itr (scores A j) k1_t1_loop.trips).1) -∗ Q ⟨⟩)
        -∗ run d E (selProg arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q) := by
  unfold selProg
  iintro ⟨HA, HC, HB, HO, L⟩ K
  iapply (run_setup16 d E Q arg0 arg4 arg5 arg6 arg7 arg8 arg9 arg10 arg11 arg12 arg13 arg14 arg15 arg16 arg17 arg18 arg19 A X) $$ [HA L]
  · isplitl [HA] <;> iassumption
  iintro HA L
  iapply (run_rowMax16 d E Q arg4 arg5 arg6 arg7 arg8 arg9 arg10 arg11 arg12 arg13 arg14 arg15 arg16 arg17 arg18 arg19 (scores A)) $$ L
  iintro L
  iapply (run_loop d E Q arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _ _ _ _ _ (scores A) _ (pk_congr fun j hj => by interval_cases j <;> rfl)) $$ L
  iintro L
  iapply (run_gather16 d E Q arg1 arg2 A C B) $$ [HC HB]
  · isplitl [HC] <;> iassumption
  iintro HC HB
  simp only [Prog.bind_op, Prog.bind_ret, Prog.lift, List.getD_cons_zero, List.getD_cons_succ]
  iapply (run_while d E Q (selCols A C B))
  iapply (run_out d E arg3 O (outList A C B) Q) $$ HO
  iintro HO
  iapply K $$ HA HC HB HO L

end Cert.Proof
-- ==== Proof.Top.lean ====
module

public import proofs.«01_k».proof.Proof.SelAll
public import Idealize.ShloMosaic.Lib.SortPrefix
@[expose] public section
set_option maxRecDepth 65536
noncomputable section
namespace Cert.Proof
open Idealize.ShloMosaic Idealize.SL.Sem Cert.KernelIdeal Cert.KernelIdeal.Gen

/-! # The selection loop picks what a stable descending sort puts first -/

/-! ## A stable sort by keys alone -/

/-- Greater keys first. -/
def before {n : ℕ} (key : Fin n → EReal) : Fin n → Fin n → Bool := fun i j => decide (key j < key i)
/-- Greater keys first, and of equal keys the earlier place. -/
def beforeAt {n : ℕ} (key : Fin n → EReal) : Fin n → Fin n → Bool := fun i j => decide (key j < key i) || (decide (key i = key j) && decide (i < j))

theorem beforeAt_strict {n : ℕ} (key : Fin n → EReal) : StrictTotalBefore (beforeAt key) := by
  classical
  have h := StrictTotalBefore.of_key_then_position (fun a b : EReal => decide (b < a)) key (fun a => by simp)
    (fun a b c hab hbc => by
      simp only [decide_eq_true_eq] at *
      exact hbc.trans hab)
    (fun a b => by
      simp only [decide_eq_true_eq]
      rcases lt_trichotomy a b with h | h | h
      · exact .inr (.inr h)
      · exact .inr (.inl h)
      · exact .inl h)
  convert h using 3
  unfold beforeAt
  congr

theorem stableSort_before {n : ℕ} (key : Fin n → EReal) (l : List (Fin n)) (h : l.Pairwise (· < ·)) :
    stableSort (before key) l = stableSort (beforeAt key) l := by
  induction l with
  | nil => rfl
  | cons a l ih =>
    obtain ⟨ha, hl⟩ := List.pairwise_cons.mp h
    unfold stableSort
    rw [ih hl]
    refine insertBefore_congr _ _ a _ fun b hb => ?_
    have hb' : a < b := ha b ((perm_stableSort _ l).mem_iff.mp hb)
    have : ¬ b < a := not_lt.mpr hb'.le
    simp [before, beforeAt, this]

theorem get_cast {α : Type} {n : ℕ} {l l' : List α} (e : l = l') (h : n = l.length) (h' : n = l'.length) (k : Fin n) : l.get (k.cast h) = l'.get (k.cast h') := by
  subst e
  rfl

theorem sortedFrom_before {n : ℕ} (key : Fin n → EReal) : sortedFrom (before key) = sortedFrom (beforeAt key) := by
  funext k
  have e : sortPositions n (before key) = sortPositions n (beforeAt key) := stableSort_before key _ (List.pairwise_lt_finRange n)
  exact get_cast e _ _ k

/-- Places with ordered keys, none left out being greater, are where the sort takes its first elements from. -/
theorem sorted_of_prefix {n k : ℕ} (key : Fin n → EReal) (hk : k ≤ n) (q : Fin k → Fin n)
    (hinj : Function.Injective q) (hord : ∀ i j : Fin k, i < j → key (q j) < key (q i) ∨ key (q j) = key (q i) ∧ q i < q j)
    (hdom : ∀ (i : Fin k) (p : Fin n), (∀ j, q j ≠ p) → key p < key (q i) ∨ key p = key (q i) ∧ q i < p) (i : Fin k) :
    sortedFrom (before key) (i.castLE hk) = q i := by
  have no : ∀ a b : Fin n, (key a < key b ∨ key a = key b ∧ b < a) → beforeAt key a b = false := by
    intro a b h
    rcases h with h | ⟨h, h'⟩
    · simp [beforeAt, not_lt.mpr h.le, h.ne]
    · simp [beforeAt, h, not_lt.mpr h'.le]
  rw [sortedFrom_before]
  exact (beforeAt_strict key).sortedFrom_eq_of_prefix hk q hinj (fun i j h => no _ _ (hord i j h)) (fun i p h => no _ _ (hdom i p h)) i

/-! ## One selection, place by place -/

/-- What marks a place as taken. -/
abbrev mark : EReal := Ideal.ofBits .f32 0xC0000000#32

/-- The lane selected. -/
def selLane (X : FVec Ideal S264x128 .f32) (s : St Ideal) : Fin 128 := fmax fun l : Fin 128 => X (ix2 (selRow s.rm) l)
/-- The row maxima are the rows' maxima. -/
def Ok (X : FVec Ideal S264x128 .f32) (s : St Ideal) : Prop := ∀ r : Fin 264, s.rm (ix2 0 r) = X (ix2 r (fmax fun l : Fin 128 => X (ix2 r l)))

theorem pay160_at (X : FVec Ideal S264x128 .f32) (r : Fin 264) : k1_pay160 X (ix2 0 r) = X (ix2 r (fmax fun l : Fin 128 => X (ix2 r l))) := by
  unfold k1_pay160
  pointwise
  rw [ninf_f32]
  exact foldmax_line fun l : Fin 128 => X (ix2 r l)

theorem word_eq {n : ℕ} (hn : n < 2147483648) (i j : Fin n) : IntOp.cmpi .eq (BitVec.ofNat 32 i.val) (BitVec.ofNat 32 j.val) = BitVec.ofBool (decide (i = j)) := by
  show BitVec.ofBool (decide (BitVec.ofNat 32 i.val = BitVec.ofNat 32 j.val)) = _
  refine congrArg BitVec.ofBool (decide_eq_decide.mpr ⟨fun h => Fin.ext ?_, fun h => by rw [h]⟩)
  have := congrArg BitVec.toNat h
  rw [BitVec.toNat_ofNat, BitVec.toNat_ofNat, Nat.mod_eq_of_lt (by omega), Nat.mod_eq_of_lt (by omega)] at this
  exact this

theorem sel_if {α : Type} (p : Prop) [Decidable p] (a b : α) : Scalar.select (BitVec.ofBool (decide p)) a b = if p then a else b := by
  by_cases h : p <;> simp [h, Scalar.select]

theorem lane_word (X : FVec Ideal S264x128 .f32) (s : St Ideal) (h : Ok X s) :
    Finset.fold IntOp.minsi 2147483647#32 (fun y : Fin 1 × Fin 128 => if X (ix2 (selRow s.rm) y.2) = s.rm (ix2 0 (selRow s.rm)) then BitVec.ofNat 32 y.2.val else 2147483647#32) Finset.univ
      = BitVec.ofNat 32 (selLane X s).val := by
  rw [h (selRow s.rm)]
  exact minsi_first (by decide) (fun l : Fin 128 => X (ix2 (selRow s.rm) l) = X (ix2 (selRow s.rm) (selLane X s))) (selLane X s) rfl
    fun j hj => ne_of_lt (lt_fmax (fun l : Fin 128 => X (ix2 (selRow s.rm) l)) j hj)

theorem pay7_at (X : FVec Ideal S264x128 .f32) (s : St Ideal) (h : Ok X s) (l : Fin 128) :
    k1_pay7 iotaL s.rm (rowVec X (selRow s.rm)) (ix2 0 l) = if l = selLane X s then mark else X (ix2 (selRow s.rm) l) := by
  have e := lane_word X s h
  unfold k1_pay7 iotaL rowVec
  pointwise
  rw [pay5_eq]
  rw [e, word_eq (by decide), sel_if]

theorem put_row (X : FVec Ideal S264x128 .f32) (i : Fin 264) (w : FVec Ideal S1x128 .f32) (r : Fin 264) (l : Fin 128) :
    VecWindow.put (s := S264x128) X ![i.val, 0] S1x128.size w (ix2 r l) = if r = i then w (ix2 0 l) else X (ix2 r l) := by
  have h1 : l.val < 128 := l.isLt
  unfold VecWindow.put
  by_cases hb : r = i
  · subst hb
    have h : ∀ a, (![r.val, 0] : Fin 2 → ℕ) a ≤ ((ix2 r l : S264x128.Idx) a).val ∧ ((ix2 r l : S264x128.Idx) a).val < (![r.val, 0] : Fin 2 → ℕ) a + S1x128.size a := fun a => by
      match a with
      | ⟨0, _⟩ => exact ⟨le_refl r.val, Nat.lt_succ_self r.val⟩
      | ⟨1, _⟩ => exact ⟨Nat.zero_le _, show l.val < 0 + 128 by omega⟩
    rw [dif_pos h, if_pos rfl]
    congr 1
    funext a
    refine Fin.ext ?_
    match a with
    | ⟨0, _⟩ => exact Nat.sub_self r.val
    | ⟨1, _⟩ => rfl
  · rw [dif_neg, if_neg hb]
    intro h
    have := h 0
    have e1 : i.val ≤ r.val := this.1
    have e2 : r.val < i.val + 1 := this.2
    exact hb (Fin.ext (by omega))

theorem pay8_at (w : Vec Ideal S1x128 .f32) (rm : FVec Ideal S1x264 .f32) (l : Fin 128) : k1_pay8 iotaL rm w (ix2 0 l) = k1_pay7 iotaL rm w (ix2 0 l) := by
  unfold k1_pay8
  pointwise

theorem stepX_at (X : FVec Ideal S264x128 .f32) (s : St Ideal) (h : Ok X s) (r : Fin 264) (l : Fin 128) :
    stepX X s (ix2 r l) = if r = selRow s.rm ∧ l = selLane X s then mark else X (ix2 r l) := by
  unfold stepX
  rw [put_row, pay8_at, pay7_at X s h]
  by_cases hr : r = selRow s.rm
  · subst hr
    simp
  · rw [if_neg hr, if_neg fun h => hr h.1]

theorem ok_zero (X : FVec Ideal S264x128 .f32) : Ok X (st0 (k1_pay160 X)) := fun r => pay160_at X r

theorem pay9_at (rm : FVec Ideal S1x264 .f32) (w : Vec Ideal S1x128 .f32) (r : Fin 264) :
    k1_pay9 iotaL iotaR rm w (ix2 0 r) = if r = selRow rm then Finset.fold max ⊥ (fun y : Fin 1 × Fin 128 => k1_pay7 iotaL rm w (ix2 0 y.2)) Finset.univ else rm (ix2 0 r) := by
  simp only [k1_pay9, pay6_eq]
  unfold iotaR
  pointwise
  rw [ninf_f32, word_eq (by decide), sel_if]

theorem stepSt_rm (k : Fin k1_t1_loop.trips) (X : FVec Ideal S264x128 .f32) (s : St Ideal) (h : Ok X s) : Ok (stepX X s) (stepSt k X s) := by
  intro r
  show k1_pay9 iotaL iotaR s.rm (rowVec X (selRow s.rm)) (ix2 0 r) = _
  rw [pay9_at]
  by_cases hr : r = selRow s.rm
  · rw [if_pos hr, ← foldmax_row fun l : Fin 128 => stepX X s (ix2 r l)]
    refine congrArg (fun f => Finset.fold max ⊥ f Finset.univ) (funext fun y => ?_)
    rw [pay7_at X s h, stepX_at X s h]
    subst hr
    simp
  · rw [if_neg hr, h r]
    have e : (fun l : Fin 128 => stepX X s (ix2 r l)) = fun l : Fin 128 => X (ix2 r l) := funext fun l => by
      rw [stepX_at X s h, if_neg fun h => hr h.1]
    rw [e, stepX_at X s h, if_neg fun h => hr h.1]

theorem sel_at {α : Type} {s : Shape} (c : IVec s 1) (a b : s.Idx → α) (j : s.Idx) : select c a b j = Scalar.select (c j) (a j) (b j) := rfl
theorem broadcast_at {α : Type} (s : Shape) (a : α) (j : s.Idx) : broadcast s a j = a := rfl

theorem rank_sel {α : Type} (k : Fin k1_t1_loop.trips) (t : Fin 384) (a b : α) :
    Scalar.select (k1_pay4 iotaT 0#32 1#32 k (ix2 0 t)) a b = if t.val = k.val then a else b := by
  have e : k1_pay4 iotaT 0#32 1#32 k (ix2 0 t) = BitVec.ofBool (decide (t.val = k.val)) := by
    have hk : k.val < 300 := k.isLt
    have ht : t.val < 384 := t.isLt
    have e1 := word_eq (n := 384) (by decide) t ⟨k.val, by omega⟩
    simp only [Fin.ext_iff] at e1
    rw [← e1]
    unfold k1_pay4 iotaT
    pointwise
    simp [Scf.iv]
  rw [e, sel_if]

theorem stepSt_rT (k : Fin k1_t1_loop.trips) (X : FVec Ideal S264x128 .f32) (s : St Ideal) (t : Fin 384) :
    (stepSt k X s).rT (ix2 0 t) = if t.val = k.val then BitVec.ofNat 32 (selRow s.rm).val else s.rT (ix2 0 t) := by
  have e := pay6_eq s.rm
  rw [← rank_sel, ← e]
  simp only [stepSt, k1_pay10, e]
  rfl
theorem stepSt_cT (k : Fin k1_t1_loop.trips) (X : FVec Ideal S264x128 .f32) (s : St Ideal) (h : Ok X s) (t : Fin 384) :
    (stepSt k X s).cT (ix2 0 t) = if t.val = k.val then BitVec.ofNat 32 (selLane X s).val else s.cT (ix2 0 t) := by
  have e := lane_word X s h
  rw [← rank_sel]
  rw [← e]
  simp only [stepSt, k1_pay11, sel_at, broadcast_at]
  refine congrArg (fun a => Scalar.select _ a _) ?_
  unfold iotaL rowVec
  pointwise
  rw [pay5_eq]
theorem stepSt_cf (k : Fin k1_t1_loop.trips) (X : FVec Ideal S264x128 .f32) (s : St Ideal) (t : Fin 384) :
    (stepSt k X s).cf (ix2 0 t) = if t.val = k.val then s.rm (ix2 0 (selRow s.rm)) else s.cf (ix2 0 t) := by
  have e := pay5_eq s.rm
  rw [← rank_sel, ← e]
  simp only [stepSt, k1_pay12, sel_at, broadcast_at]

end Cert.Proof
-- ==== Proof.Rank.lean ====
module

public import proofs.«01_k».proof.Proof.Top
@[expose] public section
set_option maxRecDepth 65536
noncomputable section
namespace Cert.Proof
open Idealize.ShloMosaic Idealize.SL.Sem Cert.KernelIdeal Cert.KernelIdeal.Gen

/-! # Three hundred selections -/

section
variable (X : FVec Ideal S264x128 .f32)

/-- The row selected at rank `n`. -/
def row (n : ℕ) : Fin 264 := selRow (itr X n).2.rm
/-- The lane selected at rank `n`. -/
def lan (n : ℕ) : Fin 128 := selLane (itr X n).1 (itr X n).2

theorem ok_at (n : ℕ) (h : n ≤ 300) : Ok (itr X n).1 (itr X n).2 := by
  induction n with
  | zero => rw [itr_zero]; exact ok_zero X
  | succ n ih =>
    have e := itr_succ X ⟨n, h⟩
    rw [e]
    exact stepSt_rm _ _ _ (ih (by omega))

theorem plane_at (n : ℕ) (h : n ≤ 300) (r : Fin 264) (l : Fin 128) :
    (itr X n).1 (ix2 r l) = if ∃ i < n, r = row X i ∧ l = lan X i then mark else X (ix2 r l) := by
  induction n with
  | zero => rw [itr_zero, if_neg fun ⟨i, hi, _⟩ => absurd hi (Nat.not_lt_zero i)]
  | succ n ih =>
    have e := itr_succ X ⟨n, h⟩
    rw [e]
    refine (stepX_at _ _ (ok_at X n (by omega)) r l).trans ?_
    change (if r = row X n ∧ l = lan X n then mark else (itr X n).1 (ix2 r l)) = _
    by_cases hn : r = row X n ∧ l = lan X n
    · rw [if_pos hn, if_pos ⟨n, Nat.lt_succ_self n, hn⟩]
    · rw [if_neg hn]
      refine (ih (by omega)).trans (if_congr ⟨fun ⟨i, hi, hh⟩ => ⟨i, by omega, hh⟩, fun ⟨i, hi, hh⟩ => ⟨i, ?_, hh⟩⟩ rfl rfl)
      refine lt_of_le_of_ne (by omega) fun e => hn (e ▸ hh)

theorem rT_at (n : ℕ) (h : n ≤ 300) (t : Fin 384) : (itr X n).2.rT (ix2 0 t) = if t.val < n then BitVec.ofNat 32 (row X t.val).val else 0#32 := by
  induction n with
  | zero => rw [itr_zero, if_neg (Nat.not_lt_zero _)]; rfl
  | succ n ih =>
    rw [itr_succ X ⟨n, h⟩]
    refine (stepSt_rT _ _ _ t).trans ?_
    by_cases ht : t.val = n
    · rw [if_pos ht, if_pos (by omega), ht]
      rfl
    · rw [if_neg ht]
      exact (ih (by omega)).trans (if_congr (by omega) rfl rfl)
theorem cT_at (n : ℕ) (h : n ≤ 300) (t : Fin 384) : (itr X n).2.cT (ix2 0 t) = if t.val < n then BitVec.ofNat 32 (lan X t.val).val else 0#32 := by
  induction n with
  | zero => rw [itr_zero, if_neg (Nat.not_lt_zero _)]; rfl
  | succ n ih =>
    rw [itr_succ X ⟨n, h⟩]
    refine (stepSt_cT _ _ _ (ok_at X n (by omega)) t).trans ?_
    by_cases ht : t.val = n
    · rw [if_pos ht, if_pos (by omega), ht]
      rfl
    · rw [if_neg ht]
      exact (ih (by omega)).trans (if_congr (by omega) rfl rfl)
/-- The score of rank `n`. -/
def top (n : ℕ) : EReal := (itr X n).1 (ix2 (row X n) (lan X n))
theorem cf_at (n : ℕ) (h : n ≤ 300) (t : Fin 384) : (itr X n).2.cf (ix2 0 t) = if t.val < n then top X t.val else 0 := by
  induction n with
  | zero =>
    rw [itr_zero, if_neg (Nat.not_lt_zero _)]
    exact Ideal.ofBits_zero .f32
  | succ n ih =>
    rw [itr_succ X ⟨n, h⟩]
    refine (stepSt_cf _ _ _ t).trans ?_
    by_cases ht : t.val = n
    · rw [if_pos ht, if_pos (by omega), ht]
      exact ok_at X n (by omega) (row X n)
    · rw [if_neg ht]
      exact (ih (by omega)).trans (if_congr (by omega) rfl rfl)

theorem top_le (n : ℕ) (h : n ≤ 300) (r : Fin 264) (l : Fin 128) : (itr X n).1 (ix2 r l) ≤ top X n := by
  have ok := ok_at X n h
  refine (le_fmax (fun l : Fin 128 => (itr X n).1 (ix2 r l)) l).trans ?_
  rw [← ok r]
  refine (le_fmax (fun r : Fin 264 => (itr X n).2.rm (ix2 0 r)) r).trans (le_of_eq ?_)
  exact ok (row X n)
theorem top_lt (n : ℕ) (h : n ≤ 300) (r : Fin 264) (l : Fin 128) (hb : 128 * r.val + l.val < 128 * (row X n).val + (lan X n).val) :
    (itr X n).1 (ix2 r l) < top X n := by
  have ok := ok_at X n h
  have h1 : l.val < 128 := l.isLt
  have h2 : (lan X n).val < 128 := (lan X n).isLt
  rcases lt_trichotomy r (row X n) with hr | hr | hr
  · refine (le_fmax (fun l : Fin 128 => (itr X n).1 (ix2 r l)) l).trans_lt ?_
    rw [← ok r]
    exact (lt_fmax (fun r : Fin 264 => (itr X n).2.rm (ix2 0 r)) r hr).trans_eq (ok (row X n))
  · subst hr
    exact lt_fmax (fun l : Fin 128 => (itr X n).1 (ix2 (row X n) l)) l (show l.val < (lan X n).val by omega)
  · have : (row X n).val < r.val := hr
    omega

end

/-! ## As positions of a line of scores -/

/-- The plane holds a line of scores row after row, and something negative past its end. -/
def Holds (X : FVec Ideal S264x128 .f32) (key : Fin 33600 → EReal) : Prop :=
  ∃ p : EReal, p < 0 ∧ ∀ (r : Fin 264) (l : Fin 128), X (ix2 r l) = if h : 128 * r.val + l.val < 33600 then key ⟨128 * r.val + l.val, h⟩ else p

theorem mark_neg : mark < 0 := by
  have e : mark = ((-2 : ℝ) : EReal) := by
    simp [Ideal.ofBits, Ideal.ieee, -EReal.coe_mul]
    try norm_num
  rw [e]
  have := EReal.coe_lt_coe_iff.mpr (show (-2 : ℝ) < 0 by norm_num)
  simpa using this
/-- What fills the planes past the end is negative. -/
theorem fill_neg : Ideal.ofBits .f32 0xBF800000#32 < 0 := by
  have e : Ideal.ofBits .f32 0xBF800000#32 = ((-1 : ℝ) : EReal) := by
    simp [Ideal.ofBits, Ideal.ieee, -EReal.coe_mul]
    try norm_num
  rw [e]
  have := EReal.coe_lt_coe_iff.mpr (show (-1 : ℝ) < 0 by norm_num)
  simpa using this

/-- Where rank `n` comes from. -/
def qn (X : FVec Ideal S264x128 .f32) (n : ℕ) : ℕ := 128 * (row X n).val + (lan X n).val

theorem same_place {r r' : Fin 264} {l l' : Fin 128} (h : 128 * r.val + l.val = 128 * r'.val + l'.val) : r = r' ∧ l = l' := by
  have := l.isLt
  have := l'.isLt
  exact ⟨Fin.ext (by omega), Fin.ext (by omega)⟩

variable {X : FVec Ideal S264x128 .f32} {key : Fin 33600 → EReal} (hX : Holds X key) (hk : ∀ p, 0 ≤ key p)
include hX hk

/-- What the plane holds at a position after `n` selections. -/
theorem at_pos (n : ℕ) (h : n ≤ 300) (p : Fin 33600) (r : Fin 264) (l : Fin 128) (hp : 128 * r.val + l.val = p.val) :
    (itr X n).1 (ix2 r l) = if ∃ i < n, qn X i = p.val then mark else key p := by
  obtain ⟨b, hb, hX⟩ := hX
  rw [plane_at X n h, hX]
  refine if_congr ⟨fun ⟨i, hi, h1, h2⟩ => ⟨i, hi, ?_⟩, fun ⟨i, hi, hq⟩ => ⟨i, hi, ?_⟩⟩ rfl ?_
  · rw [← hp, h1, h2]; rfl
  · exact same_place (hp.trans hq.symm)
  · rw [dif_pos (by rw [hp]; exact p.isLt)]
    exact congrArg key (Fin.ext hp)

theorem exists_free (n : ℕ) (h : n < 300) : ∃ p : Fin 33600, ∀ i < n, qn X i ≠ p.val := by
  by_contra hc
  push Not at hc
  have hsub : Finset.range 33600 ⊆ (Finset.range n).image (qn X) := fun p hp => by
    obtain ⟨i, hi, e⟩ := hc ⟨p, Finset.mem_range.mp hp⟩
    exact Finset.mem_image.mpr ⟨i, Finset.mem_range.mpr hi, e⟩
  have h1 := Finset.card_le_card hsub
  have h2 : ((Finset.range n).image (qn X)).card ≤ (Finset.range n).card := Finset.card_image_le
  rw [Finset.card_range] at h1 h2
  omega

theorem place (p : Fin 33600) : ∃ (r : Fin 264) (l : Fin 128), 128 * r.val + l.val = p.val := by
  have := p.isLt
  exact ⟨⟨p.val / 128, by omega⟩, ⟨p.val % 128, by omega⟩, by show 128 * (p.val / 128) + p.val % 128 = p.val; omega⟩

theorem top_nonneg (n : ℕ) (h : n < 300) : 0 ≤ top X n := by
  obtain ⟨p, hp⟩ := exists_free hX hk n h
  obtain ⟨r, l, e⟩ := place hX hk p
  refine le_trans ?_ (top_le X n h.le r l)
  rw [at_pos hX hk n h.le p r l e, if_neg fun ⟨i, hi, hq⟩ => hp i hi hq]
  exact hk p

theorem qn_lt (n : ℕ) (h : n < 300) : qn X n < 33600 := by
  by_contra hc
  have h0 := top_nonneg hX hk n h
  obtain ⟨b, hb, hX'⟩ := hX
  unfold top at h0
  rw [plane_at X n h.le, hX'] at h0
  split at h0
  · exact absurd h0 (not_le.mpr mark_neg)
  · rw [dif_neg (show ¬ 128 * (row X n).val + (lan X n).val < 33600 from hc)] at h0
    exact absurd h0 (not_le.mpr hb)

/-- Where rank `n` comes from, in the line of scores. -/
def qf (n : Fin 300) : Fin 33600 := ⟨qn X n.val, qn_lt hX hk n.val n.isLt⟩

theorem qn_free (n : ℕ) (h : n < 300) (i : ℕ) (hi : i < n) : qn X i ≠ qn X n := fun e => by
  have h0 := top_nonneg hX hk n h
  unfold top at h0
  rw [plane_at X n h.le, if_pos ⟨i, hi, same_place e.symm⟩] at h0
  exact absurd h0 (not_le.mpr mark_neg)

theorem top_key (n : Fin 300) : top X n.val = key (qf hX hk n) := by
  unfold top
  rw [at_pos hX hk n.val n.isLt.le (qf hX hk n) _ _ rfl, if_neg fun ⟨i, hi, hq⟩ => qn_free hX hk n.val n.isLt i hi hq]

theorem qf_inj : Function.Injective (qf hX hk) := fun i j h => by
  have h' : qn X i.val = qn X j.val := congrArg Fin.val h
  rcases lt_trichotomy i j with hh | hh | hh
  · exact absurd h' (qn_free hX hk j.val j.isLt i.val hh)
  · exact hh
  · exact absurd h'.symm (qn_free hX hk i.val i.isLt j.val hh)

/-- A position not selected before rank `n` is not better than what rank `n` selects. -/
theorem not_better (n : Fin 300) (p : Fin 33600) (hf : ∀ i < n.val, qn X i ≠ p.val) (hne : qf hX hk n ≠ p) :
    key p < key (qf hX hk n) ∨ key p = key (qf hX hk n) ∧ qf hX hk n < p := by
  obtain ⟨r, l, e⟩ := place hX hk p
  have hv : (itr X n.val).1 (ix2 r l) = key p := by
    rw [at_pos hX hk n.val n.isLt.le p r l e, if_neg fun ⟨i, hi, hq⟩ => hf i hi hq]
  have h1 := top_le X n.val n.isLt.le r l
  have h2 := top_lt X n.val n.isLt.le r l
  rw [hv, top_key hX hk] at h1 h2
  rcases lt_trichotomy (qf hX hk n) p with h | h | h
  · rcases h1.lt_or_eq with h' | h'
    · exact .inl h'
    · exact .inr ⟨h', h⟩
  · exact absurd h hne
  · exact .inl (h2 (by rw [e]; exact h))

/-- The selection is the sort's beginning. -/
theorem sorted_qf (i : Fin 300) : sortedFrom (before key) (i.castLE (by decide)) = qf hX hk i := by
  refine sorted_of_prefix key (by decide) (qf hX hk) (qf_inj hX hk) (fun i j hij => ?_) (fun i p hp => ?_) i
  · exact not_better hX hk i _ (fun k hk' e => qn_free hX hk j.val j.isLt k (hk'.trans hij) e) fun e => hij.ne (qf_inj hX hk e)
  · exact not_better hX hk i p (fun k hk' e => hp ⟨k, hk'.trans i.isLt⟩ (Fin.ext e)) (hp i)

end Cert.Proof
-- ==== Proof.SelectEq.lean ====
module

public import proofs.«01_k».proof.Proof.Select
@[expose] public section
set_option maxRecDepth 65536
noncomputable section
namespace Cert.Proof
open Idealize.ShloMosaic Idealize.SL.Sem Cert.KernelIdeal Cert.KernelIdeal.Gen

variable {F : FTy → Type} [FloatOps F]

set_option pp.maxSteps 600 in
set_option maxHeartbeats 40000000 in
/-- The printed kernel is this program. -/
theorem select_eq (arg0 : Memref sig .tc .vmem S16x264x128 .f32) (harg0 : arg0.IsWhole) (arg1 : Memref sig .tc .vmem S16x264x128 .f32) (harg1 : arg1.IsWhole) (arg2 : Memref sig .tc .vmem S16x4x264x128 .f32) (harg2 : arg2.IsWhole) (arg3 : Memref sig .tc .vmem S16x300x6 .f32) (harg3 : arg3.IsWhole) (arg4 : Memref sig .tc .vmem S264x128 .f32) (harg4 : arg4.IsWhole) (arg5 : Memref sig .tc .vmem S264x128 .f32) (harg5 : arg5.IsWhole) (arg6 : Memref sig .tc .vmem S264x128 .f32) (harg6 : arg6.IsWhole) (arg7 : Memref sig .tc .vmem S264x128 .f32) (harg7 : arg7.IsWhole) (arg8 : Memref sig .tc .vmem S264x128 .f32) (harg8 : arg8.IsWhole) (arg9 : Memref sig .tc .vmem S264x128 .f32) (harg9 : arg9.IsWhole) (arg10 : Memref sig .tc .vmem S264x128 .f32) (harg10 : arg10.IsWhole) (arg11 : Memref sig .tc .vmem S264x128 .f32) (harg11 : arg11.IsWhole) (arg12 : Memref sig .tc .vmem S264x128 .f32) (harg12 : arg12.IsWhole) (arg13 : Memref sig .tc .vmem S264x128 .f32) (harg13 : arg13.IsWhole) (arg14 : Memref sig .tc .vmem S264x128 .f32) (harg14 : arg14.IsWhole) (arg15 : Memref sig .tc .vmem S264x128 .f32) (harg15 : arg15.IsWhole) (arg16 : Memref sig .tc .vmem S264x128 .f32) (harg16 : arg16.IsWhole) (arg17 : Memref sig .tc .vmem S264x128 .f32) (harg17 : arg17.IsWhole) (arg18 : Memref sig .tc .vmem S264x128 .f32) (harg18 : arg18.IsWhole) (arg19 : Memref sig .tc .vmem S264x128 .f32) (harg19 : arg19.IsWhole) :
    cc1__select_kernel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = selProg arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  simp (maxSteps := 100000000) only [cc1__select_kernel_eq_skeleton, cc1__select_kernel_skel, k1_part94_eq_skeleton, k1_part94_skel]
  simp (maxSteps := 100000000) only [k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton, k1_part75_eq_skeleton, k1_part76_eq_skeleton, k1_part77_eq_skeleton, k1_part78_eq_skeleton, k1_part79_eq_skeleton, k1_part80_eq_skeleton, k1_part81_eq_skeleton, k1_part82_eq_skeleton, k1_part83_eq_skeleton, k1_part84_eq_skeleton, k1_part85_eq_skeleton, k1_part86_eq_skeleton, k1_part87_eq_skeleton, k1_part88_eq_skeleton, k1_part89_eq_skeleton, k1_part90_eq_skeleton, k1_part91_eq_skeleton, k1_part92_eq_skeleton, k1_part93_eq_skeleton]
  unfold k1_part15_skel k1_part16_skel k1_part17_skel k1_part18_skel k1_part19_skel k1_part20_skel k1_part21_skel k1_part22_skel k1_part23_skel k1_part24_skel k1_part25_skel k1_part26_skel k1_part27_skel k1_part28_skel k1_part29_skel k1_part30_skel k1_part31_skel k1_part32_skel k1_part33_skel k1_part34_skel k1_part35_skel k1_part36_skel k1_part37_skel k1_part38_skel k1_part39_skel k1_part40_skel k1_part41_skel k1_part42_skel k1_part43_skel k1_part44_skel k1_part45_skel k1_part46_skel k1_part47_skel k1_part48_skel k1_part49_skel k1_part50_skel k1_part51_skel k1_part52_skel k1_part53_skel k1_part54_skel k1_part55_skel k1_part56_skel k1_part57_skel k1_part58_skel k1_part59_skel k1_part60_skel k1_part61_skel k1_part62_skel k1_part63_skel k1_part64_skel k1_part65_skel k1_part66_skel k1_part67_skel k1_part68_skel k1_part69_skel k1_part70_skel k1_part71_skel k1_part72_skel k1_part73_skel k1_part74_skel k1_part75_skel k1_part76_skel k1_part77_skel k1_part78_skel k1_part79_skel k1_part80_skel k1_part81_skel k1_part82_skel k1_part83_skel k1_part84_skel k1_part85_skel k1_part86_skel k1_part87_skel k1_part88_skel k1_part89_skel k1_part90_skel k1_part91_skel k1_part92_skel k1_part93_skel
  unfold selProg
  simp (maxSteps := 100000000) only [setupL, rowMaxL, bind_assoc, Prog.bind_op, Prog.bind_ret, Prog.pure_eq_ret, Prog.lift]
  iterate 64 refine congrArg (Prog.op _) (funext fun _ => ?_)
  refine bind_congr (m := Prog (TpuEff nD τ sig (Elt F) (Λ₀ F) .tc)) fun t => ?_
  conv_rhs => simp (maxSteps := 100000000) only [gatherL, Prog.bind_op, Prog.bind_ret, Prog.pure_eq_ret, Prog.lift]
  iterate 81 refine congrArg (Prog.op _) (funext fun _ => ?_)
  conv_rhs => simp (maxSteps := 100000000) only [outL, Prog.bind_op, Prog.bind_ret, Prog.pure_eq_ret, Prog.lift]
  iterate 32 refine congrArg (Prog.op _) (funext fun _ => ?_)
  rfl

end Cert.Proof
-- ==== Proof.Reg0.lean ====
module

public import proofs.«01_k».proof.Proof.SelRun
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
@[expose] public section
set_option maxRecDepth 65536
noncomputable section
namespace Cert.Proof
open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The first call: class maximum and class index -/

/-- Buffer contents of each device when a call starts. -/
abbrev Bufs : Type := (c : Dev nD) → (b : Ref sig .tc) → Buf (Elt Ideal) ((c : Thread nD τ).loc b)

variable (V : Bufs)

/-- A window's block at a grid point, read off the array the first call finds. -/
def iblk0 (c : Dev nD) (w : Fin (cfg0 (F := Ideal)).W) (t : Fin (cfg0 (F := Ideal)).N) : (((cfg0 (F := Ideal)).win w).xblock ((cfg0 (F := Ideal)).grid.coords t)).Idx → Elt Ideal ((cfg0 (F := Ideal)).win w).elt :=
  (((cfg0 (F := Ideal)).win w).blk t).view.read (Elt Ideal) (V c (Pipeline.arrRef spec0 w))

/-- The input window holds its block whenever the body starts. -/
theorem before0_0_of {c : Dev nD} (dat : Dat τ (Elt Ideal) Unit ℕ UU ℕ (cfg0 (F := Ideal)) c) (hA : dat.A 0 = V c (Pipeline.arrRef spec0 0))
    (hafter : ∀ t, dat.after 0 t = iblk0 V c 0 t) (t : Fin (cfg0 (F := Ideal)).N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole input block. -/
abbrev r0_0 : Rect S1x80x264x128 := Rect.unit (s := S1x80x264x128) ![0, 0, 0, 0] S1x80x264x128.size inb_S1x80x264x128_S1x80x264x128_0_0_0_0
/-- The whole output block. -/
abbrev r0_1 : Rect S1x264x128 := Rect.unit (s := S1x264x128) ![0, 0, 0] S1x264x128.size inb_S1x264x128_S1x264x128_0_0_0

/-- What the body leaves as the class maxima, from the input block. -/
def out0_1 (x0 : Vec Ideal S1x80x264x128 .f32) : Vec Ideal S1x264x128 .f32 :=
  View.canon [⟨r0_1, k0_pay3 (View.ld x0 r0_0)⟩]

/-- One store covers the block of maxima. -/
theorem cover0_1 (p0 : Vec Ideal S1x264x128 .f32) (y : S1x264x128.Idx) :
    ∃ pc ∈ ([⟨r0_1, p0⟩] : List (View.Piece (Elt Ideal) S1x264x128 .f32)), y ∈ pc.1.set :=
  View.cover_of_tiled [⟨r0_1, p0⟩] S1x264x128.size (by rfl) y

/-- What the body leaves as the class indices, from the input block. -/
def out0_2 (x0 : Vec Ideal S1x80x264x128 .f32) : Vec Ideal S1x264x128 .f32 :=
  View.canon [⟨r0_1, k0_pay4 (View.ld x0 r0_0)⟩]

/-- One store covers the block of indices. -/
theorem cover0_2 (p0 : Vec Ideal S1x264x128 .f32) (y : S1x264x128.Idx) :
    ∃ pc ∈ ([⟨r0_1, p0⟩] : List (View.Piece (Elt Ideal) S1x264x128 .f32)), y ∈ pc.1.set :=
  View.cover_of_tiled [⟨r0_1, p0⟩] S1x264x128.size (by rfl) y

set_option maxHeartbeats 1000000 in
/-- The class-maximum body: one load, two stores. -/
theorem sound_kernel0 (c : Dev nD) (E : Set ℕ) (i : grid0.Coords) (arg1 : Memref sig .tc .vmem S1x80x264x128 .f32) (harg1 : arg1.IsWhole) (arg2 : Memref sig .tc .vmem S1x264x128 .f32) (harg2 : arg2.IsWhole) (arg3 : Memref sig .tc .vmem S1x264x128 .f32) (harg3 : arg3.IsWhole)
    (x0 : Vec Ideal S1x80x264x128 .f32) (K : PUnit → PP) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := Ideal)) Variants.nat c none) E (cc0__classmax_kernel i arg1 harg1 arg2 harg2 arg3 harg3) K := by
  simp only [cc0__classmax_kernel_eq_skeleton]; unfold cc0__classmax_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-- What the first call keeps: arrays as found, blocks as the body leaves them. -/
def dat0 (c : Dev nD) : Dat τ (Elt Ideal) Unit ℕ UU ℕ (cfg0 (F := Ideal)) c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin (cfg0 (F := Ideal)).W) : (dat0 V c).A w = V c (Pipeline.arrRef spec0 w) := by
  dsimp only [dat0]

theorem after0_0 (c : Dev nD) (t : Fin (cfg0 (F := Ideal)).N) : (dat0 V c).after 0 t = iblk0 V c 0 t := by dsimp only [dat0]
theorem after0_1 (c : Dev nD) (t : Fin (cfg0 (F := Ideal)).N) : (dat0 V c).after 1 t = out0_1 (iblk0 V c 0 t) := by dsimp only [dat0]
theorem after0_2 (c : Dev nD) (t : Fin (cfg0 (F := Ideal)).N) : (dat0 V c).after 2 t = out0_2 (iblk0 V c 0 t) := by dsimp only [dat0]

theorem before0_0 (c : Dev nD) (t : Fin (cfg0 (F := Ideal)).N) (d) : (dat0 V c).before 0 t d = iblk0 V c 0 t :=
  before0_0_of V (dat0 V c) (A_eq0 V c 0) (after0_0 V c) t d

/-- What the body starts from. -/
def bodyPre0 (c : Dev nD) (t : Fin (cfg0 (F := Ideal)).N) : PP :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What the body ends with. -/
def bodyPost0 (c : Dev nD) (t : Fin (cfg0 (F := Ideal)).N) : PP :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body runs at every grid point. -/
theorem sound_body0 (c : Dev nD) (t : Fin (cfg0 (F := Ideal)).N) :
    bodyPre0 V c t ⊢ wp frame (wpE (defs₀ (F := Ideal)) Variants.nat c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row0 (t : Fin (cfg0 (F := Ideal)).N) :
    defs₀ (F := Ideal) .tc (cfg0 (F := Ideal)).body ((cfg0 (F := Ideal)).bodyArgs t ((cfg0 (F := Ideal)).slots t)) = bodyAt0 t := by
  unfold defs₀; rw [Defs.onTc_tc]

/-- The obligation of the first call. -/
theorem body_obligation0 (c : Dev nD) : BodyObligation (dat0 V c) (defs₀ (F := Ideal)) Variants.nat () Set.univ := fun t => by
  rw [bigSep_W0, bigSep_W0, defs₀_row0]
  exact triple_restated (sound_body0 V c t) rfl .rfl fun _ => .rfl

end Cert.Proof
-- ==== Proof.Reg1.lean ====
module

public import proofs.«01_k».proof.Proof.SelAll
public import proofs.«01_k».proof.Proof.SelectEq
public import proofs.«01_k».proof.Proof.Reg0
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
@[expose] public section
set_option maxRecDepth 65536
noncomputable section
namespace Cert.Proof
open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The second call: selection and suppression -/

variable (V : Bufs)

/-- A block written over one batch entry. -/
theorem put_blk (X : FVec Ideal S16x300x6 .f32) (b : Fin 16) (w : FVec Ideal S1x300x6 .f32) (y : S16x300x6.Idx) :
    VecWindow.put (s := S16x300x6) X ![b.val, 0, 0] S1x300x6.size w y = if (y 0).val = b.val then w (ix3 0 (y 1) (y 2)) else X y := by
  have h1 := (y 1).isLt
  have h2 := (y 2).isLt
  unfold VecWindow.put
  by_cases hb : (y 0).val = b.val
  · have h : ∀ a, (![b.val, 0, 0] : Fin 3 → ℕ) a ≤ (y a).val ∧ (y a).val < (![b.val, 0, 0] : Fin 3 → ℕ) a + S1x300x6.size a := fun a => by
      match a with
      | ⟨0, _⟩ => exact ⟨hb.ge, hb.trans_lt (Nat.lt_succ_self _)⟩
      | ⟨1, _⟩ => exact ⟨Nat.zero_le _, by simpa using h1⟩
      | ⟨2, _⟩ => exact ⟨Nat.zero_le _, by simpa using h2⟩
    rw [dif_pos h, if_pos hb]
    congr 1
    funext a
    refine Fin.ext ?_
    match a with
    | ⟨0, _⟩ => show (y 0).val - b.val = 0; omega
    | ⟨1, _⟩ => rfl
    | ⟨2, _⟩ => rfl
  · rw [dif_neg, if_neg hb]
    intro h
    have := h 0
    have e1 : b.val ≤ (y 0).val := this.1
    have e2 : (y 0).val < b.val + 1 := this.2
    omega

/-- What the second call writes, entry by entry. -/
def outV (A C : FVec Ideal S16x264x128 .f32) (B : FVec Ideal S16x4x264x128 .f32) : FVec Ideal S16x300x6 .f32 :=
  fun y => outBlk (selCols A C B (y 0).val) (selKeep A C B (y 0).val) (ix3 0 (y 1) (y 2))

/-- Blocks written one after the other, read at an entry. -/
theorem outAll_at (L : List (Fin 16 × Cols Ideal × FVec Ideal S1x384 .f32)) (y : S16x300x6.Idx) : ∀ O : FVec Ideal S16x300x6 .f32,
    outAll O L y = L.foldl (fun a x => if (y 0).val = x.1.val then outBlk x.2.1 x.2.2 (ix3 0 (y 1) (y 2)) else a) (O y) := by
  induction L with
  | nil => intro O; rfl
  | cons x l ih =>
    intro O
    rw [outAll, ih, put_blk]
    rfl

/-- Sixteen blocks written one after the other leave nothing of what was there. -/
theorem outAll_eq (O : FVec Ideal S16x300x6 .f32) (A C : FVec Ideal S16x264x128 .f32) (B : FVec Ideal S16x4x264x128 .f32) :
    outAll O (outList A C B) = outV A C B := by
  funext y
  rw [outAll_at]
  unfold outV
  obtain ⟨b, hb⟩ : ∃ b : Fin 16, (y 0).val = b.val := ⟨⟨(y 0).val, (y 0).isLt⟩, rfl⟩
  rw [hb]
  simp only [List.foldl_cons, List.foldl_nil]
  fin_cases b <;> rfl

/-- A window's block at a grid point, read off the array the second call finds. -/
def iblk1 (c : Dev nD) (w : Fin (cfg1 (F := Ideal)).W) (t : Fin (cfg1 (F := Ideal)).N) : (((cfg1 (F := Ideal)).win w).xblock ((cfg1 (F := Ideal)).grid.coords t)).Idx → Elt Ideal ((cfg1 (F := Ideal)).win w).elt :=
  (((cfg1 (F := Ideal)).win w).blk t).view.read (Elt Ideal) (V c (Pipeline.arrRef spec1 w))

/-- What the second call keeps: its operands as found, its result as computed from them. -/
def dat1 (c : Dev nD) : Dat τ (Elt Ideal) Unit ℕ UU ℕ (cfg1 (F := Ideal)) c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outV (iblk1 V c 0 t) (iblk1 V c 1 t) (iblk1 V c 2 t)
  Φ _ := Pipeline.ΦA spec1 c
  q _ := fullShare
  owed _ := 0

theorem A_eq1 (c : Dev nD) (w : Fin (cfg1 (F := Ideal)).W) : (dat1 V c).A w = V c (Pipeline.arrRef spec1 w) := by
  dsimp only [dat1]

theorem after1_0 (c : Dev nD) (t : Fin (cfg1 (F := Ideal)).N) : (dat1 V c).after 0 t = iblk1 V c 0 t := by dsimp only [dat1]
theorem after1_1 (c : Dev nD) (t : Fin (cfg1 (F := Ideal)).N) : (dat1 V c).after 1 t = iblk1 V c 1 t := by dsimp only [dat1]
theorem after1_2 (c : Dev nD) (t : Fin (cfg1 (F := Ideal)).N) : (dat1 V c).after 2 t = iblk1 V c 2 t := by dsimp only [dat1]
theorem after1_3 (c : Dev nD) (t : Fin (cfg1 (F := Ideal)).N) : (dat1 V c).after 3 t = outV (iblk1 V c 0 t) (iblk1 V c 1 t) (iblk1 V c 2 t) := by dsimp only [dat1]

theorem before1_0 (c : Dev nD) (t : Fin (cfg1 (F := Ideal)).N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]) t d).trans
    (by unfold Dat.fetched Dat.blockOf iblk1; rw [A_eq1]; try rfl)
theorem before1_1 (c : Dev nD) (t : Fin (cfg1 (F := Ideal)).N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]) t d).trans
    (by unfold Dat.fetched Dat.blockOf iblk1; rw [A_eq1]; try rfl)
theorem before1_2 (c : Dev nD) (t : Fin (cfg1 (F := Ideal)).N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]) t d).trans
    (by unfold Dat.fetched Dat.blockOf iblk1; rw [A_eq1]; try rfl)

/-- Memrefs owned at some contents each. -/
def anyL (c : Dev nD) : List (Memref sig .tc .vmem S264x128 .f32) → PP
  | [] => iprop(emp)
  | m :: l => iprop((∃ f, own c m f) ∗ anyL c l)

/-- Memrefs paired with numbered contents. -/
def numL : List (Memref sig .tc .vmem S264x128 .f32) → ℕ → (ℕ → FVec Ideal S264x128 .f32) → List (Memref sig .tc .vmem S264x128 .f32 × FVec Ideal S264x128 .f32)
  | [], _, _ => []
  | m :: l, n, X => (m, X n) :: numL l (n + 1) X

theorem numL_congr (l : List (Memref sig .tc .vmem S264x128 .f32)) : ∀ (n : ℕ) (X Y : ℕ → FVec Ideal S264x128 .f32), (∀ k, n ≤ k → X k = Y k) → numL l n X = numL l n Y := by
  induction l with
  | nil => intros; rfl
  | cons m l ih =>
    intro n X Y h
    simp only [numL]
    rw [h n (le_refl _), ih (n + 1) X Y fun k hk => h k (by omega)]

theorem anyL_num (c : Dev nD) (l : List (Memref sig .tc .vmem S264x128 .f32)) : ∀ n : ℕ, anyL c l ⊢ iprop(∃ X, ownL c (numL l n X)) := by
  induction l with
  | nil =>
    intro n
    simp only [anyL, numL, ownL]
    iintro H
    iexists (fun _ _ => (0 : EReal))
    iexact H
  | cons m l ih =>
    intro n
    simp only [anyL, numL, ownL]
    iintro ⟨⟨%f, H⟩, L⟩
    ihave L' := (ih (n + 1)) $$ L
    icases L' with ⟨%X, L'⟩
    iexists (fun k => if k = n then f else X k)
    rw [numL_congr l (n + 1) (fun k => if k = n then f else X k) X fun k hk => if_neg (by omega)]
    simp only [if_true]
    isplitl [H]
    · iexact H
    · iexact L'

theorem num_anyL (c : Dev nD) (l : List (Memref sig .tc .vmem S264x128 .f32)) : ∀ (n : ℕ) (X : ℕ → FVec Ideal S264x128 .f32), ownL c (numL l n X) ⊢ anyL c l := by
  induction l with
  | nil =>
    intro n X
    simp only [anyL, numL, ownL]
    iintro H
    iexact H
  | cons m l ih =>
    intro n X
    simp only [anyL, numL, ownL]
    iintro ⟨H, L⟩
    isplitl [H]
    · iexists _; iexact H
    · iapply (ih (n + 1) X); iexact L

/-- The scratch buffers of the second call. -/
abbrev scratches : List (Memref sig .tc .vmem S264x128 .f32) :=
  [Memref.whole cc1_scratch0, Memref.whole cc1_scratch1, Memref.whole cc1_scratch2, Memref.whole cc1_scratch3, Memref.whole cc1_scratch4, Memref.whole cc1_scratch5, Memref.whole cc1_scratch6, Memref.whole cc1_scratch7, Memref.whole cc1_scratch8, Memref.whole cc1_scratch9, Memref.whole cc1_scratch10, Memref.whole cc1_scratch11, Memref.whole cc1_scratch12, Memref.whole cc1_scratch13, Memref.whole cc1_scratch14, Memref.whole cc1_scratch15]

theorem own_whole (c : Dev nD) (b : Ref sig .tc) (f : b.ty.Contents (Elt Ideal)) :
    (owns (c.tc : Thread nD τ) (Memref.whole b) fullShare f : PP) = (((c : Thread nD τ).loc b) ↦{fullShare} f) := owns_whole _ _ _ _

theorem some_whole (c : Dev nD) (b : Ref sig .tc) :
    (iprop(∃ f : b.ty.Contents (Elt Ideal), owns (c.tc : Thread nD τ) (Memref.whole b) fullShare f) : PP) = iprop(∃ f : Buf (Elt Ideal) ((c : Thread nD τ).loc b), (((c : Thread nD τ).loc b) ↦{fullShare} f)) :=
  congrArg _ (funext fun f => own_whole c b f)

/-- A buffer the call does not touch, at some contents. -/
abbrev idle (c : Dev nD) (b : Ref sig .tc) : PP := iprop(∃ f : Buf (Elt Ideal) ((c : Thread nD τ).loc b), (((c : Thread nD τ).loc b) ↦{fullShare} f))

theorem emp_last (P : PP) : iprop(P ∗ emp) = P := equiv_iff.mp BI.sep_emp

/-- The buffers beside the windows: the first call's staging buffers and the scratch buffers. -/
theorem rest1 (c : Dev nD) : (Pipeline.scopedRest (Ix := Unit) (Name := ℕ) (U := UU) (Lvl := ℕ) (Val := Elt Ideal) spec1 c : PP)
    = iprop(idle c cc0_stg0_0 ∗ idle c cc0_stg0_1 ∗ idle c cc0_stg1_0 ∗ idle c cc0_stg1_1 ∗ idle c cc0_stg2_0 ∗ idle c cc0_stg2_1 ∗ anyL c scratches) := by
  rw [scopedRest1_eq]
  have e : anyL c scratches = iprop(idle c cc1_scratch0 ∗ idle c cc1_scratch1 ∗ idle c cc1_scratch2 ∗ idle c cc1_scratch3 ∗ idle c cc1_scratch4 ∗ idle c cc1_scratch5 ∗ idle c cc1_scratch6 ∗ idle c cc1_scratch7 ∗ idle c cc1_scratch8 ∗ idle c cc1_scratch9 ∗ idle c cc1_scratch10 ∗ idle c cc1_scratch11 ∗ idle c cc1_scratch12 ∗ idle c cc1_scratch13 ∗ idle c cc1_scratch14 ∗ idle c cc1_scratch15) := by
    simp only [anyL, ← some_whole]
    rw [emp_last]
    rfl
  rw [e]

theorem scr_back (c : Dev nD) (X : ℕ → FVec Ideal S264x128 .f32) :
    ownL c (scrL (Memref.whole cc1_scratch0) (Memref.whole cc1_scratch1) (Memref.whole cc1_scratch2) (Memref.whole cc1_scratch3) (Memref.whole cc1_scratch4) (Memref.whole cc1_scratch5) (Memref.whole cc1_scratch6) (Memref.whole cc1_scratch7) (Memref.whole cc1_scratch8) (Memref.whole cc1_scratch9) (Memref.whole cc1_scratch10) (Memref.whole cc1_scratch11) (Memref.whole cc1_scratch12) (Memref.whole cc1_scratch13) (Memref.whole cc1_scratch14) (Memref.whole cc1_scratch15) X) ⊢ anyL c scratches :=
  num_anyL c scratches 0 X

/-- What the body starts from. -/
def bodyPre1 (c : Dev nD) (t : Fin (cfg1 (F := Ideal)).N) : PP :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What the body ends with. -/
def bodyPost1 (c : Dev nD) (t : Fin (cfg1 (F := Ideal)).N) : PP :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body runs at the one grid point. -/
theorem sound_body1 (c : Dev nD) (t : Fin (cfg1 (F := Ideal)).N) :
    bodyPre1 V c t ⊢ wp frame (wpE (defs₀ (F := Ideal)) Variants.nat c none) Set.univ (bodyAt1 t) (fun _ => bodyPost1 V c t) := by
  unfold bodyPre1 bodyPost1 bodyAt1
  simp only [before1_0, before1_1, before1_2]
  rw [show (dat1 V c).Φ t.succ = Pipeline.ΦA spec1 c from rfl,
    show (dat1 V c).Φ t.castSucc = Pipeline.ΦA spec1 c from rfl,
    show (dat1 V c).owesAt () t.succ = (dat1 V c).owesAt () t.castSucc from rfl,
    after1_0, after1_1, after1_2, after1_3]
  unfold Pipeline.ΦA
  rw [rest1, select_eq]
  iintro ⟨⟨⟨I0, I1, I2, I3, I4, I5, S⟩, Hp⟩, Ho, ⟨%d0, H0⟩, ⟨%d1, H1⟩, ⟨%d2, H2⟩, ⟨%d3, H3⟩⟩
  ihave S' := (anyL_num c scratches 0) $$ S
  icases S' with ⟨%X, S'⟩
  iapply (run_select c Set.univ _ _ _ _ _ _ _ _ _ _ _ _ _ _ _ _ _ _ _ _ _ _ _ _ _ _ _ _ _ _ _ _ _ _ _ _ _ _ _ _ (iblk1 V c 0 t) (iblk1 V c 1 t) (iblk1 V c 2 t) _ X _) $$ [H0 H1 H2 H3 S']
  · isplitl [H0]; · iexact H0
    isplitl [H1]; · iexact H1
    isplitl [H2]; · iexact H2
    isplitl [H3]; · iexact H3
    iexact S'
  iintro H0 H1 H2 H3 S
  ihave S := (scr_back c (fun j => (itr (scores (iblk1 V c 0 t) j) k1_t1_loop.trips).1)) $$ S
  isplitl [I0 I1 I2 I3 I4 I5 S Hp]
  · isplitl [I0 I1 I2 I3 I4 I5 S]
    · isplitl [I0]; · iexact I0
      isplitl [I1]; · iexact I1
      isplitl [I2]; · iexact I2
      isplitl [I3]; · iexact I3
      isplitl [I4]; · iexact I4
      isplitl [I5]; · iexact I5
      iexact S
    · iexact Hp
  isplitl [Ho]; · iexact Ho
  isplitl [H0]; · iexact H0
  isplitl [H1]; · iexact H1
  isplitl [H2]; · iexact H2
  rw [outAll_eq]
  iexact H3

theorem defs₀_row1 (t : Fin (cfg1 (F := Ideal)).N) :
    defs₀ (F := Ideal) .tc (cfg1 (F := Ideal)).body ((cfg1 (F := Ideal)).bodyArgs t ((cfg1 (F := Ideal)).slots t)) = bodyAt1 t := by
  unfold defs₀; rw [Defs.onTc_tc]

/-- The obligation of the second call. -/
theorem body_obligation1 (c : Dev nD) : BodyObligation (dat1 V c) (defs₀ (F := Ideal)) Variants.nat () Set.univ := fun t => by
  rw [bigSep_W1, bigSep_W1, defs₀_row1]
  exact triple_restated (sound_body1 V c t) rfl .rfl fun _ => .rfl

end Cert.Proof
-- ==== Proof.ColVal.lean ====
module

public import proofs.«01_k».proof.Proof.Rank
public import proofs.«01_k».proof.Proof.Reg1
@[expose] public section
set_option maxRecDepth 65536
noncomputable section
namespace Cert.Proof
open Idealize.ShloMosaic Idealize.SL.Sem Cert.KernelIdeal Cert.KernelIdeal.Gen

/-! # What both programs compute, in plain terms -/

/-- A number of a box less, and plus, half of its extent. -/
abbrev lo (c w : EReal) : EReal := c - w * Ideal.ofBits .f32 0x3F000000#32
abbrev hi (c w : EReal) : EReal := c + w * Ideal.ofBits .f32 0x3F000000#32
/-- The area both of two boxes cover. -/
abbrev inter (a b : Fin 4 → EReal) : EReal :=
  max (min (hi (a 0) (a 2)) (hi (b 0) (b 2)) - max (lo (a 0) (a 2)) (lo (b 0) (b 2))) 0 * max (min (hi (a 1) (a 3)) (hi (b 1) (b 3)) - max (lo (a 1) (a 3)) (lo (b 1) (b 3))) 0
/-- The area of a box. -/
abbrev area (a : Fin 4 → EReal) : EReal := (hi (a 0) (a 2) - lo (a 0) (a 2)) * (hi (a 1) (a 3) - lo (a 1) (a 3))
/-- The overlap ratio of two boxes. -/
abbrev iou (a b : Fin 4 → EReal) : EReal := Ideal.div (inter a b) (area a + area b - inter a b + Ideal.ofBits .f32 0x33D6BF95#32)
/-- Which of a list of boxes suppresses which later one. -/
def sup {n : ℕ} (bx : Fin n → Fin 4 → EReal) : Fin n → Fin n → Bool := fun i j => decide (Ideal.ofBits .f32 0x3F333333#32 < iou (bx i) (bx j)) && decide (i < j)

theorem sup_upper {n : ℕ} (bx : Fin n → Fin 4 → EReal) : Upper (sup bx) := fun i j h => by
  unfold sup at h
  simp only [Bool.and_eq_true, decide_eq_true_eq] at h
  exact h.2

/-- The result at one place, from the boxes, scores and classes selected. -/
def outSpec (bx : Fin 300 → Fin 4 → EReal) (sc cl : Fin 300 → EReal) (k : Fin 300) (a : Fin 6) : EReal :=
  if h : a.val < 4 then bx k ⟨a.val, h⟩
  else if a.val = 4 then (if nmFix (sup bx) k = true ∧ Ideal.ofBits .f32 0x3A83126F#32 < sc k then sc k else 0)
  else cl k

/-- The first places of a list are suppressed as if the list ended after them. -/
theorem nmFix_restrict {n k : ℕ} (hkn : k ≤ n) {S : Fin n → Fin n → Bool} {S' : Fin k → Fin k → Bool} (hS : Upper S) (hS' : Upper S')
    (h : ∀ i j : Fin k, S (i.castLE hkn) (j.castLE hkn) = S' i j) (j : Fin k) : nmFix S (j.castLE hkn) = nmFix S' j := by
  have e : nm S' (fun j : Fin k => nmFix S (j.castLE hkn)) = fun j : Fin k => nmFix S (j.castLE hkn) := by
    funext j
    show _ = nmFix S (j.castLE hkn)
    rw [← congrFun (nm_nmFix hS) (j.castLE hkn)]
    unfold nm
    refine congrArg (fun b => !b) (decide_eq_decide.mpr ⟨fun ⟨i, h1, h2⟩ => ⟨i.castLE hkn, h1, (h i j).trans h2⟩, fun ⟨i, h1, h2⟩ => ?_⟩)
    have hij : i.val < j.val := hS i _ h2
    have hj : j.val < k := j.isLt
    exact ⟨⟨i.val, by omega⟩, h1, (h ⟨i.val, by omega⟩ j).symm.trans h2⟩
  exact congrFun (nmFix_of_fix hS' e) j

/-! ## The kernel's columns at a place -/

theorem sum_one {n : ℕ} (hn : n < 2147483648) (f : Fin n → EReal) (t : Fin n) :
    ∑ x, Scalar.select (IntOp.cmpi .eq (BitVec.ofNat 32 t.val) (BitVec.ofNat 32 x.val)) (f x) 0 = f t := by
  rw [Finset.sum_eq_single t]
  · rw [word_eq hn, sel_if, if_pos rfl]
  · intro x _ hx
    rw [word_eq hn, sel_if, if_neg fun e => hx e.symm]
  · exact fun h => absurd (Finset.mem_univ t) h

theorem colF_at (row : FVec Ideal S1x384 .f32) (t : Fin 384) : colF row (ix2 t 0) = row (ix2 0 t) := by
  unfold colF eye iotaCol iotaRow
  pointwise
  exact sum_one (by decide) (fun x : Fin 384 => row (ix2 0 x)) t
theorem rowF_at (col : FVec Ideal S384x1 .f32) (t : Fin 384) : rowF col (ix2 0 t) = col (ix2 t 0) := by
  unfold rowF eye iotaCol iotaRow
  pointwise
  refine Eq.trans (Finset.sum_congr rfl fun x _ => ?_) (sum_one (by decide) (fun x : Fin 384 => col (ix2 x 0)) t)
  rw [word_eq (n := 384) (by decide) x t, word_eq (n := 384) (by decide) t x, decide_eq_decide.mpr (eq_comm (a := x) (b := t))]
theorem fold_zero {n : ℕ} (f : Fin n → BitVec 32) (s : Finset (Fin n)) (h : ∀ x ∈ s, f x = 0#32) : s.fold IntOp.addi 0#32 f = 0#32 := by
  induction s using Finset.induction_on with
  | empty => rfl
  | insert x s hx ih =>
    rw [Finset.fold_insert hx, h x (Finset.mem_insert_self x s), ih fun y hy => h y (Finset.mem_insert_of_mem hy)]
    rfl
theorem fold_one {n : ℕ} {f : Fin n → BitVec 32} (t : Fin n) (h : ∀ x, x ≠ t → f x = 0#32) : Finset.univ.fold IntOp.addi 0#32 f = f t := by
  rw [← Finset.insert_erase (Finset.mem_univ t), Finset.fold_insert (Finset.notMem_erase t _), fold_zero f _ fun x hx => h x (Finset.ne_of_mem_erase hx)]
  exact BitVec.add_zero (f t)
theorem colI_at (row : IVec S1x384 32) (t : Fin 384) : colI row (ix2 t 0) = row (ix2 0 t) := by
  unfold colI eye iotaCol iotaRow
  pointwise
  refine (fold_one t fun x hx => ?_).trans ?_
  · rw [word_eq (n := 384) (by decide), sel_if, if_neg fun e => hx e.symm]
  · rw [word_eq (n := 384) (by decide), sel_if, if_pos rfl]

theorem rsel_at (rT : IVec S1x384 32) (t : Fin 384) (i : Fin 264) (h : rT (ix2 0 t) = BitVec.ofNat 32 i.val) (r : Fin 264) :
    (rsel rT : FVec Ideal S384x264 .f32) (ix2 t r) = if r = i then (1 : EReal) else 0 := by
  unfold rsel iotaNR
  pointwise
  rw [colI_at, h, word_eq (by decide), sel_if]
theorem lane_at (cT : IVec S1x384 32) (t : Fin 384) (i : Fin 128) (h : cT (ix2 0 t) = BitVec.ofNat 32 i.val) (l : Fin 128) :
    (lane cT : FVec Ideal S384x128 .f32) (ix2 t l) = if l = i then (1 : EReal) else 0 := by
  unfold lane iotaNL
  pointwise
  rw [colI_at, h, word_eq (by decide), sel_if]

/-- The selected element of a plane. -/
theorem pick_at (p) (rT cT : IVec S1x384 32) (plane : FVec Ideal S264x128 .f32) (t : Fin 384) (r : Fin 264) (l : Fin 128)
    (hr : rT (ix2 0 t) = BitVec.ofNat 32 r.val) (hl : cT (ix2 0 t) = BitVec.ofNat 32 l.val) :
    pick p (rsel rT) (lane cT) plane (ix2 t 0) = plane (ix2 r l) := by
  unfold pick
  pointwise
  have e1 : ∀ x : Fin 128, (∑ y : Fin 264, rsel rT (ix2 t y) * plane (ix2 y x)) = plane (ix2 r x) := fun x => by
    rw [Finset.sum_eq_single r]
    · rw [rsel_at rT t r hr, if_pos rfl, one_mul]
    · intro y _ hy
      rw [rsel_at rT t r hr, if_neg hy, zero_mul]
    · exact fun h => absurd (Finset.mem_univ r) h
  refine (Finset.sum_congr rfl fun x _ => congrArg (· * lane cT (ix2 t x)) (e1 x)).trans ?_
  rw [Finset.sum_eq_single l]
  · rw [lane_at cT t l hl, if_pos rfl, mul_one]
  · intro y _ hy
    rw [lane_at cT t l hl, if_neg hy, mul_zero]
  · exact fun h => absurd (Finset.mem_univ l) h

theorem planeOf_at (A : FVec Ideal S16x264x128 .f32) (b : Fin 16) (r : Fin 264) (l : Fin 128) : planeOf A b (ix3 0 r l) = A (ix3 b r l) := by
  refine congrArg A (funext fun a => Fin.ext ?_)
  match a with
  | 0 => exact Nat.add_zero b.val
  | 1 => show 0 + 1 * r.val = r.val; omega
  | 2 => show 0 + 1 * l.val = l.val; omega
theorem boxOf_at (A : FVec Ideal S16x4x264x128 .f32) (b : Fin 16) (j : Fin 4) (r : Fin 264) (l : Fin 128) : boxOf A b j (ix4 0 0 r l) = A (ix4 b j r l) := by
  refine congrArg A (funext fun a => Fin.ext ?_)
  match a with
  | 0 => exact Nat.add_zero b.val
  | 1 => exact Nat.add_zero j.val
  | 2 => show 0 + 1 * r.val = r.val; omega
  | 3 => show 0 + 1 * l.val = l.val; omega
theorem plane_cast (v : Vec Ideal S1x264x128 .f32) (r : Fin 264) (l : Fin 128) : shapeCast S264x128 v shapeCasts_S1x264x128_S264x128 (ix2 r l) = v (ix3 0 r l) := by
  pointwise
theorem box_cast (v : Vec Ideal S1x1x264x128 .f32) (r : Fin 264) (l : Fin 128) : shapeCast S264x128 v shapeCasts_S1x1x264x128_S264x128 (ix2 r l) = v (ix4 0 0 r l) := by
  pointwise

/-- A box of the columns. -/
def colBox (c : Cols Ideal) (t : Fin 384) : Fin 4 → EReal := ![c.cx (ix2 t 0), c.cy (ix2 t 0), c.w (ix2 t 0), c.h (ix2 t 0)]

theorem supp_at (c : Cols Ideal) (i j : Fin 384) : supp c i j = sup (colBox c) i j := by
  unfold supp sup
  refine congrArg (fun x : EReal => decide (Ideal.ofBits .f32 0x3F333333#32 < x) && decide (i < j)) ?_
  unfold ratio overlap alongC alongR half
  pointwise
  simp only [rowF_at]
  pointwise
  rfl

theorem num_gt (b : Bool) : decide (Ideal.ofBits .f32 0x3F000000#32 < num b) = b := by
  rw [half_f32]
  cases b
  · exact decide_eq_false (not_lt.mpr half_pos)
  · exact decide_eq_true half_lt_one

theorem six_at (x0 x1 x2 x3 x4 x5 : EReal) (a : Fin 6) :
    Scalar.select (IntOp.cmpi .eq (BitVec.ofNat 32 a.val) 0#32) x0 0 + Scalar.select (IntOp.cmpi .eq (BitVec.ofNat 32 a.val) 1#32) x1 0
      + Scalar.select (IntOp.cmpi .eq (BitVec.ofNat 32 a.val) 2#32) x2 0 + Scalar.select (IntOp.cmpi .eq (BitVec.ofNat 32 a.val) 3#32) x3 0
      + Scalar.select (IntOp.cmpi .eq (BitVec.ofNat 32 a.val) 4#32) x4 0 + Scalar.select (IntOp.cmpi .eq (BitVec.ofNat 32 a.val) 5#32) x5 0 = ![x0, x1, x2, x3, x4, x5] a := by
  fin_cases a <;> simp [Scalar.select, IntOp.cmpi]

theorem confOut_at (c : Cols Ideal) (K : Fin 384 → Bool) (k : Fin 384) :
    confOut c (rowOf K) (ix2 k 0) = if K k = true ∧ Ideal.ofBits .f32 0x3A83126F#32 < c.cf (ix2 k 0) then c.cf (ix2 k 0) else 0 := by
  unfold confOut
  pointwise
  rw [colF_at]
  have e : decide (Ideal.ofBits .f32 0x3F000000#32 < rowOf K (ix2 0 k)) = K k := num_gt (K k)
  rw [e]
  cases hK : K k <;> by_cases h : Ideal.ofBits .f32 0x3A83126F#32 < c.cf (ix2 k 0) <;> simp [h, IntOp.andi, Scalar.select]

theorem outBlk_at (c : Cols Ideal) (K : Fin 384 → Bool) (k : Fin 300) (a : Fin 6) :
    outBlk c (rowOf K) (ix3 0 k a) = if h : a.val < 4 then colBox c (k.castLE (by decide)) ⟨a.val, h⟩
      else if a.val = 4 then (if K (k.castLE (by decide)) = true ∧ Ideal.ofBits .f32 0x3A83126F#32 < c.cf (ix2 (k.castLE (by decide)) 0) then c.cf (ix2 (k.castLE (by decide)) 0) else 0)
      else c.cl (ix2 (k.castLE (by decide)) 0) := by
  have e := confOut_at c K (k.castLE (by decide))
  unfold outBlk sixCols spread6 iota6
  pointwise
  refine (six_at _ _ _ _ _ _ a).trans ?_
  match a with
  | 0 => rfl
  | 1 => rfl
  | 2 => rfl
  | 3 => rfl
  | 4 => exact e
  | 5 => rfl

end Cert.Proof
-- ==== Proof.Pre.lean ====
module

public import proofs.«01_k».proof.Pre_nonneg_scores
public import Idealize.ShloMosaic.Lib.ReduceAll
public import proofs.«01_k».proof.Proof.ColVal
@[expose] public section
set_option maxRecDepth 65536
noncomputable section
namespace Cert.Proof
open Idealize.ShloMosaic Cert.Pre_nonneg_scores

/-! # The precondition, read -/

theorem preFacts : Cert.Pre_nonneg_scores.Facts where
  slices_S16x84x33600_S16x80x33600_0_4_0 := by decide
  bcast_S_S16x80x33600 := by decide
  reducesTo_S16x80x33600_S_d0_1_2 := by decide
  h_S_ := by decide

/-- Where the precondition holds every class score is at least zero. -/
theorem pre_read [Cert.Pre_nonneg_scores.Facts] (x : FVec Ideal S16x84x33600 .f32) (h : Cert.Pre_nonneg_scores.fn (F := Ideal) x = fun _ => 1#1) (b : Fin 16) (p : Fin 33600) (k : Fin 80) :
    0 ≤ x (ix3 b ⟨k.val + 4, by omega⟩ p) := by
  unfold Cert.Pre_nonneg_scores.fn at h
  haveI : Subsingleton S_.Idx := ⟨fun i j => funext fun a => a.elim0⟩
  have h1 := Host.reduce_andi_all _ _ Facts.reducesTo_S16x80x33600_S_d0_1_2 Facts.h_S_ (Shape.Idx.first Facts.h_S_) (congrFun h _) (ix3 b k p)
  revert h1
  pointwise
  intro h1
  by_contra hx
  simp only [Nat.add_comm 4] at h1
  rw [decide_eq_false hx] at h1
  exact absurd h1 (by decide)

end Cert.Proof
-- ==== Proof.RefRun.lean ====
module

public import proofs.«01_k».proof.Proof.Gen.ReferenceIdeal.Run
public import Idealize.ShloMosaic.Lib.Quiescent
public import Idealize.ShloMosaic.Lib.IdealHost
@[expose] public section
set_option maxRecDepth 65536
noncomputable section
namespace Cert.Proof
open Idealize.ShloMosaic Idealize.ShloMosaic.TcCoe Idealize.ShloMosaic.StableHlo Idealize.SL.Sem Cert.ReferenceIdeal Cert.ReferenceIdeal.Gen Cert.ReferenceIdeal.Value

/-! # The reference from launch to return -/

variable (m : (ℓ : Loc nD τ sig) → Buf (Elt Ideal) ℓ)

/-- A buffer that no turn of the loop writes is after any number of turns as before. -/
theorem loop_keep (c : Dev nD) (r : Ref sig .tc) (hc : r ∉ condOps_W) (h0 : r ∉ while0Ops0_W) (h1 : r ∉ while0Ops0_1_W) (h2 : r ∉ while0Ops0_2_W) (h3 : r ∉ while0Ops0_3_W) (k : ℕ) :
    atK (F := Ideal) m k c (Proc.devRef .tc r) = entryContents (F := Ideal) preI m c (Proc.devRef .tc r) := by
  induction k with
  | zero => rfl
  | succ k ih =>
    refine Eq.trans ?_ ih
    show after (while0Ops0_3 (F := Ideal)) (after (while0Ops0_2 (F := Ideal)) (after (while0Ops0_1 (F := Ideal)) (after (while0Ops0 (F := Ideal)) (after (condOps (F := Ideal)) _)))) _ = _
    rw [after_of_writes_sub (while0Ops0_3 (F := Ideal)) _ while0Ops0_3_writes h3, after_of_writes_sub (while0Ops0_2 (F := Ideal)) _ while0Ops0_2_writes h2,
      after_of_writes_sub (while0Ops0_1 (F := Ideal)) _ while0Ops0_1_writes h1, after_of_writes_sub (while0Ops0 (F := Ideal)) _ while0Ops0_writes h0,
      after_of_writes_sub (condOps (F := Ideal)) _ condOps_writes hc]

/-- The argument reaches the loop as launched. -/
theorem entry_arg (c : Dev nD) : entryContents (F := Ideal) preI m c (Proc.devRef .tc main_arg0) = m ((c : Thread nD τ).loc main_arg0) := by
  simp only [entryContents, preI, afterL_cons, afterL_nil]
  rw [after_of_writes_sub (hostOps0_8 (F := Ideal)) _ hostOps0_8_writes (by decide), after_of_writes_sub (hostOps0_7 (F := Ideal)) _ hostOps0_7_writes (by decide),
    after_of_writes_sub (hostOps0_6 (F := Ideal)) _ hostOps0_6_writes (by decide), after_of_writes_sub (hostOps0_5 (F := Ideal)) _ hostOps0_5_writes (by decide),
    after_of_writes_sub (hostOps0_4 (F := Ideal)) _ hostOps0_4_writes (by decide), after_of_writes_sub (hostOps0_3 (F := Ideal)) _ hostOps0_3_writes (by decide),
    after_of_writes_sub (hostOps0_2 (F := Ideal)) _ hostOps0_2_writes (by decide), after_of_writes_sub (hostOps0_1 (F := Ideal)) _ hostOps0_1_writes (by decide),
    after_of_writes_sub (hostOps0 (F := Ideal)) _ hostOps0_writes (by decide)]

/-- What the stretches after the loop write. -/
abbrev hostOps0_9_W : List (Ref sig .tc) := [main_cst_9, main_v91, main_v92, main_v93, main_cst_10]
theorem hostOps0_9_writes : (hostOps0_9 (F := Ideal)).Forall fun op => op.writes ⊆ (hostOps0_9_W.map (Proc.devRef (τ := τ) .tc)).toFinset :=
  forall_writes_sub_of_map rfl
abbrev hostOps0_10_W : List (Ref sig .tc) := [main_call6_v0, main_call6_v1, main_v94]
theorem hostOps0_10_writes : (hostOps0_10 (F := Ideal)).Forall fun op => op.writes ⊆ (hostOps0_10_W.map (Proc.devRef (τ := τ) .tc)).toFinset :=
  forall_writes_sub_of_map rfl
abbrev hostOps0_11_W : List (Ref sig .tc) := [main_v95, main_v96, main_v97]
theorem hostOps0_11_writes : (hostOps0_11 (F := Ideal)).Forall fun op => op.writes ⊆ (hostOps0_11_W.map (Proc.devRef (τ := τ) .tc)).toFinset :=
  forall_writes_sub_of_map rfl

/-- The argument reaches the end as launched. -/
theorem final_arg (c : Dev nD) : finalContents (F := Ideal) condOps preI bodyI postI 300 m c (Proc.devRef .tc main_arg0) = m ((c : Thread nD τ).loc main_arg0) := by
  simp only [finalContents, postI, afterL_cons, afterL_nil]
  rw [after_of_writes_sub (hostOps0_11 (F := Ideal)) _ hostOps0_11_writes (by decide), after_of_writes_sub (hostOps0_10 (F := Ideal)) _ hostOps0_10_writes (by decide),
    after_of_writes_sub (hostOps0_9 (F := Ideal)) _ hostOps0_9_writes (by decide), after_of_writes_sub (condOps (F := Ideal)) _ condOps_writes (by decide)]
  exact (loop_keep m c main_arg0 (by decide) (by decide) (by decide) (by decide) (by decide) 300).trans (entry_arg m c)

/-- The reference runs, leaves its argument as it was and its result as the operations compute it. -/
theorem ref_run (ρ : Dev nD → PrngReg) : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
        ∧ r.2.mem ((c.tc : Thread nD τ).loc main_v97) = finalContents (F := Ideal) condOps preI bodyI postI 300 m c (Proc.devRef .tc main_v97))
      ∧ r.2.sem = fun _ => 0) :=
  (θ_run defs _ _).mono (fun r h => ⟨fun c => ⟨(h c main_arg0 rfl).trans (final_arg m c), h c main_v97 rfl⟩, sem_eq_zero_of_no_sems rfl _⟩) (run_fold m ρ)

end Cert.Proof
-- ==== Proof.RefPure.lean ====
module

public import proofs.«01_k».proof.Proof.RefRun
public import proofs.«01_k».proof.Proof.ColVal
@[expose] public section
set_option maxRecDepth 65536
noncomputable section
namespace Cert.Proof
open Idealize.ShloMosaic Idealize.ShloMosaic.StableHlo Idealize.SL.Sem Cert.ReferenceIdeal Cert.ReferenceIdeal.Gen

/-! # The reference's operations at one place -/

/-! ## The greatest score and where it is -/

theorem red_eq (a b : EReal × BitVec 32) : reducer_argmax_f32_i32 (F := Ideal) a b = if b.1 < a.1 ∨ (a.1 = b.1 ∧ a.2.toInt < b.2.toInt) then a else b := by
  obtain ⟨a, i⟩ := a
  obtain ⟨b, j⟩ := b
  have e1 : FloatOps.cmpf (F := Ideal) (φ := .f32) .ogt a b = BitVec.ofBool (decide (b < a)) := rfl
  have e2 : FloatOps.cmpf (F := Ideal) (φ := .f32) .une a a = 0#1 := by simp [Ideal.cmpf_def, Ideal.cmp]
  have e3 : FloatOps.cmpf (F := Ideal) (φ := .f32) .oeq a b = BitVec.ofBool (decide (a = b)) := rfl
  have e4 : IntOp.cmpi .slt i j = BitVec.ofBool (decide (i.toInt < j.toInt)) := by
    simp [IntOp.cmpi, BitVec.slt_eq_decide]
  unfold reducer_argmax_f32_i32
  simp only [e1, e2, e3, e4]
  by_cases h1 : b < a
  · cases decide (a = b) <;> cases decide (i.toInt < j.toInt) <;> simp [h1, IntOp.ori, IntOp.andi, Scalar.select]
  · by_cases h2 : a = b
    · subst h2
      by_cases h3 : i.toInt < j.toInt
      · simp [h3, IntOp.ori, IntOp.andi, Scalar.select]
      · simp [h3, IntOp.ori, IntOp.andi, Scalar.select]
    · simp [h1, h2, IntOp.ori, IntOp.andi, Scalar.select]

/-- A pair is no better than another: a lesser value, or the same value at no earlier an index. -/
def NoBetter (q r : EReal × BitVec 32) : Prop := q.1 < r.1 ∨ (q.1 = r.1 ∧ r.2.toInt ≤ q.2.toInt)

theorem NoBetter.refl (q : EReal × BitVec 32) : NoBetter q q := .inr ⟨rfl, le_rfl⟩
theorem NoBetter.trans {p q r : EReal × BitVec 32} (h : NoBetter p q) (h' : NoBetter q r) : NoBetter p r := by
  rcases h with h | ⟨h1, h2⟩ <;> rcases h' with h' | ⟨h1', h2'⟩
  · exact .inl (h.trans h')
  · exact .inl (h1' ▸ h)
  · exact .inl (h1 ▸ h')
  · exact .inr ⟨h1.trans h1', h2'.trans h2⟩

theorem red_spec (a b : EReal × BitVec 32) : (reducer_argmax_f32_i32 (F := Ideal) a b = a ∨ reducer_argmax_f32_i32 (F := Ideal) a b = b)
    ∧ NoBetter a (reducer_argmax_f32_i32 (F := Ideal) a b) ∧ NoBetter b (reducer_argmax_f32_i32 (F := Ideal) a b) := by
  rw [red_eq]
  by_cases h : b.1 < a.1 ∨ (a.1 = b.1 ∧ a.2.toInt < b.2.toInt)
  · rw [if_pos h]
    refine ⟨.inl rfl, NoBetter.refl a, ?_⟩
    rcases h with h | ⟨h1, h2⟩
    · exact .inl h
    · exact .inr ⟨h1.symm, h2.le⟩
  · rw [if_neg h]
    push Not at h
    refine ⟨.inr rfl, ?_, NoBetter.refl b⟩
    rcases lt_or_eq_of_le h.1 with h1 | h1
    · exact .inl h1
    · exact .inr ⟨h1, h.2 h1⟩

theorem red_fold (L : List (EReal × BitVec 32)) : ∀ a, (L.foldl (reducer_argmax_f32_i32 (F := Ideal)) a = a ∨ L.foldl (reducer_argmax_f32_i32 (F := Ideal)) a ∈ L)
    ∧ NoBetter a (L.foldl (reducer_argmax_f32_i32 (F := Ideal)) a) ∧ ∀ q ∈ L, NoBetter q (L.foldl (reducer_argmax_f32_i32 (F := Ideal)) a) := by
  induction L with
  | nil => exact fun a => ⟨.inl rfl, NoBetter.refl a, fun q h => absurd h List.not_mem_nil⟩
  | cons b L ih =>
    intro a
    rw [List.foldl_cons]
    obtain ⟨h1, h2, h3⟩ := ih (reducer_argmax_f32_i32 (F := Ideal) a b)
    obtain ⟨g1, g2, g3⟩ := red_spec a b
    refine ⟨?_, g2.trans h2, fun q hq => ?_⟩
    · rcases h1 with h1 | h1
      · rw [h1]
        rcases g1 with g1 | g1
        · exact .inl g1
        · rw [g1]; exact .inr List.mem_cons_self
      · exact .inr (List.mem_cons_of_mem b h1)
    · rcases List.mem_cons.mp hq with rfl | hq
      · exact g3.trans h2
      · exact h3 q hq

theorem argmax_at (x : FVec Ideal S16x300x80 .f32) (b : Fin 16) (n : Fin 300) :
    (Host.argReduce (reducer_argmax_f32_i32 (F := Ideal)) x (iotaInDim S16x300x80 32 2) (constant (F := Ideal) S_ .f32 0xFF800000#32) (constantI S_ 32 0#32) reducesTo_S16x300x80_S16x300_d2 h_S_ (ix2 b n)).2
      = BitVec.ofNat 32 (fmax fun k : Fin 80 => x (ix3 b n k)).val := by
  rw [Ideal.argReduce_eq_reduce2, Host.reduce2_eq_foldl_fiber]
  have hm : ∀ q : EReal × BitVec 32, q ∈ Host.argReduceFiber x (iotaInDim S16x300x80 32 2) reducesTo_S16x300x80_S16x300_d2 (ix2 b n) ↔ ∃ k : Fin 80, q = (x (ix3 b n k), BitVec.ofNat 32 k.val) := by
    intro q
    unfold Host.argReduceFiber
    rw [List.mem_map]
    constructor
    · rintro ⟨w, hw, rfl⟩
      have hd := (of_decide_eq_true (List.mem_filter.mp hw).2)
      generalize S16x300x80.rowMajor.symm w = i at hd ⊢
      have hi : i = ix3 b n (i 2) := by
        funext a
        match a with
        | 0 => exact congrFun hd 0
        | 1 => exact congrFun hd 1
        | 2 => rfl
      refine ⟨i 2, ?_⟩
      rw [hi]
      rfl
    · rintro ⟨k, rfl⟩
      refine ⟨S16x300x80.rowMajor (ix3 b n k), List.mem_filter.mpr ⟨List.mem_finRange _, decide_eq_true ?_⟩, ?_⟩
      · rw [Equiv.symm_apply_apply]
        funext a
        match a with
        | 0 => rfl
        | 1 => rfl
      · rw [Equiv.symm_apply_apply]
        rfl
  have e0 : (constant (F := Ideal) S_ .f32 0xFF800000#32 (Shape.Idx.first h_S_) : EReal) = ⊥ := ninf_f32
  have e1 : constantI S_ 32 0#32 (Shape.Idx.first h_S_) = 0#32 := rfl
  rw [e0, e1]
  obtain ⟨h1, h2, h3⟩ := red_fold (Host.argReduceFiber x (iotaInDim S16x300x80 32 2) reducesTo_S16x300x80_S16x300_d2 (ix2 b n)) (⊥, 0#32)
  generalize (Host.argReduceFiber x (iotaInDim S16x300x80 32 2) reducesTo_S16x300x80_S16x300_d2 (ix2 b n)).foldl (reducer_argmax_f32_i32 (F := Ideal)) (⊥, 0#32) = r at h1 h2 h3
  have h3' : ∀ k : Fin 80, NoBetter (x (ix3 b n k), BitVec.ofNat 32 k.val) r := fun k => h3 _ ((hm _).mpr ⟨k, rfl⟩)
  rcases h1 with rfl | h1
  · have e : (fmax fun k : Fin 80 => x (ix3 b n k)) = 0 := by
      have hb : ∀ k : Fin 80, x (ix3 b n k) = ⊥ := fun k => by
        rcases h3' k with h | h
        · exact absurd h (not_lt.mpr bot_le)
        · exact h.1
      exact fmax_eq _ 0 (fun j => by rw [hb, hb]) (fun j hj => absurd hj (Fin.not_lt_zero j))
    rw [e]
    rfl
  · obtain ⟨k, rfl⟩ := (hm r).mp h1
    have e : (fmax fun k : Fin 80 => x (ix3 b n k)) = k := by
      refine fmax_eq _ k (fun j => ?_) (fun j hj => ?_)
      · rcases h3' j with h | h
        · exact h.le
        · exact h.1.le
      · rcases h3' j with h | ⟨_, h⟩
        · exact h
        · exfalso
          have h : (BitVec.ofNat 32 k.val).toInt ≤ (BitVec.ofNat 32 j.val).toInt := h
          rw [toInt_small _ (by omega), toInt_small _ (by omega)] at h
          have : j.val < k.val := hj
          omega
    rw [e]

/-! ## The greatest of a row -/

theorem along_at (b : Fin 16) (n k : Fin 33600) : (ix2 b n : S16x33600.Idx).along 1 k = ix2 b k := by
  funext a
  match a with
  | 0 => rfl
  | 1 => rfl
theorem total_gt (a b : EReal) : (FloatOps.cmpfTotal (F := Ideal) (φ := .f32) .gt a b == 1#1) = decide (b < a) := by
  rw [Ideal.cmpfTotal_def]
  show (BitVec.ofBool (decide (b < a)) == 1#1) = _
  cases decide (b < a) <;> rfl

theorem topk_at (x : FVec Ideal S16x33600 .f32) (b : Fin 16) (n : Fin 300) :
    (Host.topK S16x300 1 (FloatOps.cmpfTotal (F := Ideal) .gt) x sliceFits_S16x33600_S16x300).2 (ix2 b n)
      = BitVec.ofNat 32 (sortedFrom (before fun p : Fin 33600 => x (ix2 b p)) (n.castLE (by decide))).val := by
  unfold Host.topK Host.sort2
  simp only [show (1 : ℕ) < S16x33600.rank from by decide, dif_pos]
  pointwise
  simp only [along_at, total_gt]
  rfl

/-! ## Elements taken along a row -/

theorem gather4_at (x : FVec Ideal S16x33600x4 .f32) (i : IVec S16x300x1 32) (b : Fin 16) (n : Fin 300) (j : Fin 4) :
    Host.gather gather_S16x33600x4_S16x300x1_S16x300x4_2_1_0_0_1_2_114 x i (ix3 b n j) = x (ix3 b ⟨min (i (ix3 b n 0)).toInt.toNat 33599, by omega⟩ j) := by
  refine congrArg x (funext fun a => Fin.ext ?_)
  have hsi : ∀ c, GatherDims.siIdx gather_S16x33600x4_S16x300x1_S16x300x4_2_1_0_0_1_2_114 (ix3 b n j) c = ix3 b n 0 := fun c => by
    funext e
    match e with
    | 0 => rfl
    | 1 => rfl
    | 2 => exact Fin.ext (Nat.lt_one_iff.mp c.isLt)
  match a with
  | 0 =>
    show 0 + b.val + 0 = b.val
    omega
  | 1 =>
    show min (i (GatherDims.siIdx gather_S16x33600x4_S16x300x1_S16x300x4_2_1_0_0_1_2_114 (ix3 b n j) ⟨0, by decide⟩)).toInt.toNat 33599 + 0 + 0 = _
    rw [hsi]
    rfl
  | 2 =>
    show 0 + 0 + j.val = j.val
    omega

theorem gather80_at (x : FVec Ideal S16x33600x80 .f32) (i : IVec S16x300x1 32) (b : Fin 16) (n : Fin 300) (j : Fin 80) :
    Host.gather gather_S16x33600x80_S16x300x1_S16x300x80_2_1_0_0_1_2_1180 x i (ix3 b n j) = x (ix3 b ⟨min (i (ix3 b n 0)).toInt.toNat 33599, by omega⟩ j) := by
  refine congrArg x (funext fun a => Fin.ext ?_)
  have hsi : ∀ c, GatherDims.siIdx gather_S16x33600x80_S16x300x1_S16x300x80_2_1_0_0_1_2_1180 (ix3 b n j) c = ix3 b n 0 := fun c => by
    funext e
    match e with
    | 0 => rfl
    | 1 => rfl
    | 2 => exact Fin.ext (Nat.lt_one_iff.mp c.isLt)
  match a with
  | 0 =>
    show 0 + b.val + 0 = b.val
    omega
  | 1 =>
    show min (i (GatherDims.siIdx gather_S16x33600x80_S16x300x1_S16x300x80_2_1_0_0_1_2_1180 (ix3 b n j) ⟨0, by decide⟩)).toInt.toNat 33599 + 0 + 0 = _
    rw [hsi]
    rfl
  | 2 =>
    show 0 + 0 + j.val = j.val
    omega

/-! ## Words that count -/

theorem slt_nonneg (p : ℕ) (h : p < 2147483647) : IntOp.cmpi .slt (BitVec.ofNat 32 p) 0#32 = 0#1 := by
  show BitVec.ofBool ((BitVec.ofNat 32 p).slt 0#32) = 0#1
  have e : (BitVec.ofNat 32 p).slt 0#32 = false := by
    rw [Bool.eq_false_iff, ne_eq, BitVec.slt_iff_toInt_lt, toInt_small _ h]
    simp
  rw [e]
  rfl

theorem sge_nonneg (p : ℕ) (h : p < 2147483647) : IntOp.cmpi .sge (BitVec.ofNat 32 p) 0#32 = 1#1 := by
  show BitVec.ofBool ((0#32).sle (BitVec.ofNat 32 p)) = 1#1
  have e : (0#32).sle (BitVec.ofNat 32 p) = true := by
    rw [BitVec.sle_iff_toInt_le, toInt_small _ h]
    simp
  rw [e]
  rfl

theorem sle_last (p : ℕ) (h : p < 33600) : IntOp.cmpi .sle (BitVec.ofNat 32 p) 33599#32 = 1#1 := by
  show BitVec.ofBool ((BitVec.ofNat 32 p).sle 33599#32) = 1#1
  have e : (BitVec.ofNat 32 p).sle 33599#32 = true := by
    rw [BitVec.sle_iff_toInt_le, toInt_small _ (by omega), show (33599#32).toInt = 33599 from rfl]
    omega
  rw [e]
  rfl

theorem sgt_word {n : ℕ} (hn : n < 2147483647) (i j : Fin n) : IntOp.cmpi .sgt (BitVec.ofNat 32 j.val) (BitVec.ofNat 32 i.val) = BitVec.ofBool (decide (i < j)) := by
  show BitVec.ofBool ((BitVec.ofNat 32 i.val).slt (BitVec.ofNat 32 j.val)) = _
  refine congrArg BitVec.ofBool ?_
  rw [Bool.eq_iff_iff, BitVec.slt_iff_toInt_lt, toInt_small _ (by omega), toInt_small _ (by omega), decide_eq_true_eq]
  exact Int.ofNat_lt

/-! ## Taking the rows of the chosen positions -/

/-- Positions, those below zero counted from the end. -/
def nrm (i : IVec S16x300x1 32) : IVec S16x300x1 32 :=
  select (cmpi .slt i (broadcastInDim S16x300x1 ![] bcast_S_S16x300x1 (constantI S_ 32 0#32))) (addi i (broadcastInDim S16x300x1 ![] bcast_S_S16x300x1 (constantI S_ 32 33600#32))) i

/-- Which positions there are. -/
def okp (i : IVec S16x300x1 32) : IVec S16x300 1 :=
  Host.reduce IntOp.andi (andi (cmpi .sge (nrm i) (broadcastInDim S16x300x1 ![] bcast_S_S16x300x1 (constantI S_ 32 0#32)))
    (cmpi .sle (nrm i) (broadcastInDim S16x300x1 ![0, 1, 2] bcast_S1x1x1_S16x300x1_0_1_2 (broadcastInDim S1x1x1 ![2] bcast_S1_S1x1x1_2 (constantI S1 32 33599#32)))))
    (constantI S_ 1 1#1) reducesTo_S16x300x1_S16x300_d2 h_S_

/-- The boxes of the positions. -/
def take4 (x : FVec Ideal S16x33600x4 .f32) (i : IVec S16x300x1 32) : FVec Ideal S16x300x4 .f32 :=
  select (broadcastInDim S16x300x4 ![0, 1] bcast_S16x300_S16x300x4_0_1 (okp i)) (Host.gather gather_S16x33600x4_S16x300x1_S16x300x4_2_1_0_0_1_2_114 x (nrm i))
    (broadcastInDim S16x300x4 ![] bcast_S_S16x300x4 (constant (F := Ideal) S_ .f32 0x7FC00000#32))

/-- The class scores of the positions. -/
def take80 (x : FVec Ideal S16x33600x80 .f32) (i : IVec S16x300x1 32) : FVec Ideal S16x300x80 .f32 :=
  select (broadcastInDim S16x300x80 ![0, 1] bcast_S16x300_S16x300x80_0_1 (okp i)) (Host.gather gather_S16x33600x80_S16x300x1_S16x300x80_2_1_0_0_1_2_1180 x (nrm i))
    (broadcastInDim S16x300x80 ![] bcast_S_S16x300x80 (constant (F := Ideal) S_ .f32 0x7FC00000#32))

theorem nrm_at (i : IVec S16x300x1 32) (b : Fin 16) (n : Fin 300) (p : Fin 33600) (h : i (ix3 b n 0) = BitVec.ofNat 32 p.val) : nrm i (ix3 b n 0) = BitVec.ofNat 32 p.val := by
  unfold nrm
  pointwise
  rw [h, slt_nonneg _ (by omega)]
  rfl

theorem okp_at (i : IVec S16x300x1 32) (b : Fin 16) (n : Fin 300) (p : Fin 33600) (h : i (ix3 b n 0) = BitVec.ofNat 32 p.val) : okp i (ix2 b n) = 1#1 := by
  unfold okp
  pointwise
  have hn := nrm_at i b n p h
  rw [Finset.univ_unique, Finset.fold_singleton]
  show IntOp.andi (IntOp.andi (IntOp.cmpi .sge (nrm i (ix3 b n 0)) 0#32) (IntOp.cmpi .sle (nrm i (ix3 b n 0)) 33599#32)) 1#1 = 1#1
  rw [hn, sge_nonneg _ (by omega), sle_last _ p.isLt]
  rfl

theorem min_pos (p : Fin 33600) (h : min (BitVec.ofNat 32 p.val).toInt.toNat 33599 < 33600) : (⟨min (BitVec.ofNat 32 p.val).toInt.toNat 33599, h⟩ : Fin 33600) = p := by
  refine Fin.ext ?_
  show min (BitVec.ofNat 32 p.val).toInt.toNat 33599 = p.val
  rw [toInt_small _ (by omega)]
  omega

theorem take4_at (x : FVec Ideal S16x33600x4 .f32) (i : IVec S16x300x1 32) (b : Fin 16) (n : Fin 300) (p : Fin 33600) (h : i (ix3 b n 0) = BitVec.ofNat 32 p.val) (j : Fin 4) :
    take4 x i (ix3 b n j) = x (ix3 b p j) := by
  unfold take4
  pointwise
  rw [okp_at i b n p h, gather4_at]
  simp only [nrm_at i b n p h, min_pos]
  rfl

theorem take80_at (x : FVec Ideal S16x33600x80 .f32) (i : IVec S16x300x1 32) (b : Fin 16) (n : Fin 300) (p : Fin 33600) (h : i (ix3 b n 0) = BitVec.ofNat 32 p.val) (j : Fin 80) :
    take80 x i (ix3 b n j) = x (ix3 b p j) := by
  unfold take80
  pointwise
  rw [okp_at i b n p h, gather80_at]
  simp only [nrm_at i b n p h, min_pos]
  rfl

/-! ## One turn of the suppression loop -/

/-- The keep mask after one turn, of the ratios, the places, the turn and the mask before. -/
def turn (io : FVec Ideal S16x300x300 .f32) (ids : IVec S300 32) (ctr : IVec S_ 32) (keep : IVec S16x300 1) : IVec S16x300 1 :=
  id (andi keep (noti (andi (andi (cmpf .ogt (shapeCast S16x300 (Host.dynamicSlice S16x1x300 io (fun k => (((![constantI S_ 32 0#32, select (cmpi .slt ctr (constantI S_ 32 0#32)) (addi (id ctr) (constantI S_ 32 300#32)) ctr, constantI S_ 32 0#32] : Fin 3 → (⟨S_, .i32⟩ : BufTy).Contents (Elt Ideal))) k (Shape.Idx.first h_S_)).toInt) sliceFits_S16x300x300_S16x1x300) shapeCasts_S16x1x300_S16x300) (broadcastInDim S16x300 ![] bcast_S_S16x300 (constant (F := Ideal) S_ .f32 0x3F333333#32))) (broadcastInDim S16x300 ![0, 1] bcast_S16x1_S16x300_0_1 (Host.dynamicSlice S16x1 keep (fun k => (((![constantI S_ 32 0#32, select (cmpi .slt ctr (constantI S_ 32 0#32)) (addi (id ctr) (constantI S_ 32 300#32)) ctr] : Fin 2 → (⟨S_, .i32⟩ : BufTy).Contents (Elt Ideal))) k (Shape.Idx.first h_S_)).toInt) sliceFits_S16x300_S16x1))) (broadcastInDim S16x300 ![0, 1] bcast_S1x300_S16x300_0_1 (broadcastInDim S1x300 ![1] bcast_S300_S1x300_1 (cmpi .sgt ids (broadcastInDim S300 ![] bcast_S_S300 (id ctr))))))))

/-- The row a turn looks at. -/
theorem ctr_start (t : Fin 300) (x : IVec S_ 32) : select (cmpi .slt (fun _ => BitVec.ofNat 32 t.val) (constantI S_ 32 0#32)) x (fun _ => BitVec.ofNat 32 t.val) = fun _ => BitVec.ofNat 32 t.val := by
  funext i
  show Scalar.select (IntOp.cmpi .slt (BitVec.ofNat 32 t.val) 0#32) _ _ = _
  rw [slt_nonneg _ (by omega)]
  rfl

/-- Where a turn's row of ratios starts. -/
theorem start3 (t : Fin 300) (ht : S16x1x300.rank = S16x300x300.rank) (a : Fin 3) :
    Host.clampedStart S16x300x300 S16x1x300 ht (fun k => BitVec.toInt ((![constantI S_ 32 0#32, fun _ => BitVec.ofNat 32 t.val, constantI S_ 32 0#32] : Fin 3 → (⟨S_, .i32⟩ : BufTy).Contents (Elt Ideal)) k (Shape.Idx.first h_S_))) a
      = (![0, t.val, 0] : Fin 3 → ℕ) a := by
  have hs : ∀ a : Fin 3, ((![constantI S_ 32 0#32, fun _ => BitVec.ofNat 32 t.val, constantI S_ 32 0#32] : Fin 3 → (⟨S_, .i32⟩ : BufTy).Contents (Elt Ideal)) a (Shape.Idx.first h_S_)).toInt = (((![0, t.val, 0] : Fin 3 → ℕ) a : ℕ) : ℤ) := fun a => by
    match a with
    | 0 => rfl
    | 1 => exact toInt_small _ (by omega)
    | 2 => rfl
  refine Host.clampedStart_of_le ht _ a _ (hs a) ?_
  match a with
  | 0 => exact le_refl 16
  | 1 => exact Nat.succ_le_of_lt t.isLt
  | 2 => exact le_refl 300

/-- Where a turn's column of the mask starts. -/
theorem start2 (t : Fin 300) (ht : S16x1.rank = S16x300.rank) (a : Fin 2) :
    Host.clampedStart S16x300 S16x1 ht (fun k => BitVec.toInt ((![constantI S_ 32 0#32, fun _ => BitVec.ofNat 32 t.val] : Fin 2 → (⟨S_, .i32⟩ : BufTy).Contents (Elt Ideal)) k (Shape.Idx.first h_S_))) a
      = (![0, t.val] : Fin 2 → ℕ) a := by
  have hs : ∀ a : Fin 2, ((![constantI S_ 32 0#32, fun _ => BitVec.ofNat 32 t.val] : Fin 2 → (⟨S_, .i32⟩ : BufTy).Contents (Elt Ideal)) a (Shape.Idx.first h_S_)).toInt = (((![0, t.val] : Fin 2 → ℕ) a : ℕ) : ℤ) := fun a => by
    match a with
    | 0 => rfl
    | 1 => exact toInt_small _ (by omega)
  refine Host.clampedStart_of_le ht _ a _ (hs a) ?_
  match a with
  | 0 => exact le_refl 16
  | 1 => exact Nat.succ_le_of_lt t.isLt

theorem turn_at (io : FVec Ideal S16x300x300 .f32) (t : Fin 300) (keep : IVec S16x300 1) (b : Fin 16) (j : Fin 300) :
    turn io (iotaInDim S300 32 0) (fun _ => BitVec.ofNat 32 t.val) keep (ix2 b j)
      = IntOp.andi (keep (ix2 b j)) (~~~IntOp.andi (IntOp.andi (BitVec.ofBool (decide (Ideal.ofBits .f32 0x3F333333#32 < io (ix3 b t j)))) (keep (ix2 b t))) (BitVec.ofBool (decide (t < j)))) := by
  unfold turn
  simp only [id]
  pointwise
  simp only [ctr_start]
  rw [sgt_word (by decide)]
  have a0 := start3 t rfl 0
  have a1 := start3 t rfl 1
  have a2 := start3 t rfl 2
  have c0 := start2 t rfl 0
  have c1 := start2 t rfl 1
  simp only [a0, a1, a2, c0, c1, Matrix.cons_val_zero, Matrix.cons_val_one, Matrix.cons_val, Nat.zero_add, Fin.eta]

/-! ## The suppression loop -/

/-- The mask after some turns. -/
def keepAt (io : FVec Ideal S16x300x300 .f32) : ℕ → IVec S16x300 1
  | 0 => fun _ => 1#1
  | t + 1 => turn io (iotaInDim S300 32 0) (fun _ => BitVec.ofNat 32 t) (keepAt io t)

/-- A square of ratios read as which place suppresses which later one. -/
def supOf (io : FVec Ideal S16x300x300 .f32) (b : Fin 16) (i j : Fin 300) : Bool := decide (Ideal.ofBits .f32 0x3F333333#32 < io (ix3 b i j)) && decide (i < j)

theorem bit_turn (k s : BitVec 1) (p q : Bool) : IntOp.andi k (~~~IntOp.andi (IntOp.andi (BitVec.ofBool p) s) (BitVec.ofBool q)) = 1#1 ↔ k = 1#1 ∧ ¬(s = 1#1 ∧ (p && q) = true) := by
  revert k s p q
  decide

theorem keepAt_iff (io : FVec Ideal S16x300x300 .f32) (b : Fin 16) (t : ℕ) (ht : t ≤ 300) (j : Fin 300) :
    keepAt io t (ix2 b j) = 1#1 ↔ ∀ i : Fin 300, i.val < t → ¬(keepAt io i.val (ix2 b i) = 1#1 ∧ supOf io b i j = true) := by
  induction t with
  | zero => exact ⟨fun _ i hi => absurd hi (Nat.not_lt_zero _), fun _ => rfl⟩
  | succ t ih =>
    have e := turn_at io ⟨t, by omega⟩ (keepAt io t) b j
    show turn io (iotaInDim S300 32 0) (fun _ => BitVec.ofNat 32 t) (keepAt io t) (ix2 b j) = 1#1 ↔ _
    rw [e, bit_turn, ih (by omega)]
    constructor
    · rintro ⟨h, h'⟩ i hi
      rcases Nat.lt_succ_iff_lt_or_eq.mp hi with hi | hi
      · exact h i hi
      · have : i = ⟨t, by omega⟩ := Fin.ext hi
        rw [this]
        exact h'
    · intro h
      exact ⟨fun i hi => h i (by omega), h ⟨t, by omega⟩ (Nat.lt_succ_self t)⟩

/-- A place's mark no longer changes once its own turn has come. -/
theorem keepAt_own (io : FVec Ideal S16x300x300 .f32) (b : Fin 16) (i : Fin 300) : keepAt io i.val (ix2 b i) = 1#1 ↔ keepAt io 300 (ix2 b i) = 1#1 := by
  rw [keepAt_iff io b i.val (by omega), keepAt_iff io b 300 (le_refl _)]
  refine ⟨fun h k hk hx => ?_, fun h k hk => h k k.isLt⟩
  by_cases hki : k.val < i.val
  · exact h k hki hx
  · have := hx.2
    unfold supOf at this
    rw [Bool.and_eq_true, decide_eq_true_eq, decide_eq_true_eq] at this
    exact hki this.2

theorem supOf_upper (io : FVec Ideal S16x300x300 .f32) (b : Fin 16) : Upper (supOf io b) := fun i j h => by
  unfold supOf at h
  rw [Bool.and_eq_true, decide_eq_true_eq, decide_eq_true_eq] at h
  exact h.2

/-- The loop ends at the one mask that every place agrees with. -/
theorem keepAt_fix (io : FVec Ideal S16x300x300 .f32) (b : Fin 16) (j : Fin 300) : keepAt io 300 (ix2 b j) = 1#1 ↔ nmFix (supOf io b) j = true := by
  have e : nm (supOf io b) (fun j => decide (keepAt io 300 (ix2 b j) = 1#1)) = fun j => decide (keepAt io 300 (ix2 b j) = 1#1) := by
    funext j
    unfold nm
    rw [Bool.eq_iff_iff, Bool.not_eq_true', decide_eq_false_iff_not, decide_eq_true_eq, keepAt_iff io b 300 (le_refl _) j]
    constructor
    · intro h i _ hx
      exact h ⟨i, decide_eq_true ((keepAt_own io b i).mp hx.1), hx.2⟩
    · rintro h ⟨i, hi, hx⟩
      exact h i i.isLt ⟨(keepAt_own io b i).mpr (of_decide_eq_true hi), hx⟩
  rw [← nmFix_of_fix (supOf_upper io b) e, decide_eq_true_eq]

end Cert.Proof
-- ==== Proof.RefVal.lean ====
module

public import proofs.«01_k».proof.Proof.RefPure
public import Idealize.ShloMosaic.Lib.StableHlo.RunRead
public import Idealize.ShloMosaic.Lib.StableHlo.RunClose
@[expose] public section
set_option maxRecDepth 65536
noncomputable section
namespace Cert.Proof
open Idealize.ShloMosaic Idealize.ShloMosaic.TcCoe Idealize.ShloMosaic.StableHlo Idealize.SL.Sem Cert.ReferenceIdeal Cert.ReferenceIdeal.Gen Cert.ReferenceIdeal.Value

/-! # What each stretch of the reference leaves -/

variable (W : Valuation τ sig (Elt Ideal))

/-- The boxes of all positions. -/
def rawBox (x : FVec Ideal S16x84x33600 .f32) : FVec Ideal S16x33600x4 .f32 :=
  extractStridedSlice S16x33600x4 ![0, 0, 0] (transpose S16x33600x84 [0, 2, 1] x transposes_S16x84x33600_S16x33600x84_0_2_1) slices_S16x33600x84_S16x33600x4_0_0_0
/-- The class scores of all positions. -/
def rawCls (x : FVec Ideal S16x84x33600 .f32) : FVec Ideal S16x33600x80 .f32 :=
  extractStridedSlice S16x33600x80 ![0, 0, 4] (transpose S16x33600x84 [0, 2, 1] x transposes_S16x84x33600_S16x33600x84_0_2_1) slices_S16x33600x84_S16x33600x80_0_0_4

theorem rawBox_at (x : FVec Ideal S16x84x33600 .f32) (b : Fin 16) (p : Fin 33600) (j : Fin 4) : rawBox x (ix3 b p j) = x (ix3 b ⟨j.val, by omega⟩ p) := by
  unfold rawBox
  pointwise
theorem rawCls_at (x : FVec Ideal S16x84x33600 .f32) (b : Fin 16) (p : Fin 33600) (j : Fin 80) : rawCls x (ix3 b p j) = x (ix3 b ⟨j.val + 4, by omega⟩ p) := by
  unfold rawCls
  pointwise
  simp only [Nat.add_comm]

theorem s0_box : (after hostOps0 W (Proc.devRef .tc main_v1) : FVec Ideal S16x33600x4 .f32) = rawBox (W (Proc.devRef .tc main_arg0)) := by
  simp only [hostOps0]
  after_results_entrywise [cast_eq]
  try rfl

theorem s0_cls : (after hostOps0 W (Proc.devRef .tc main_v2) : FVec Ideal S16x33600x80 .f32) = rawCls (W (Proc.devRef .tc main_arg0)) := by
  simp only [hostOps0]
  after_results_entrywise [cast_eq]
  try rfl

theorem s0_top : (after hostOps0 W (Proc.devRef .tc main_indices) : IVec S16x300 32)
    = (Host.topK S16x300 1 (FloatOps.cmpfTotal (F := Ideal) .gt) (Host.reduce FloatOps.maximumf (after hostOps0 W (Proc.devRef .tc main_v2) : FVec Ideal S16x33600x80 .f32) (constant (F := Ideal) S_ .f32 0xFF800000#32) reducesTo_S16x33600x80_S16x33600_d2 h_S_) sliceFits_S16x33600_S16x300).2 := by
  simp only [hostOps0]
  after_results_entrywise [cast_eq]
  try rfl

theorem s0_ix : (after hostOps0 W (Proc.devRef .tc main_v4) : IVec S16x300x1 32)
    = broadcastInDim S16x300x1 ![0, 1] bcast_S16x300_S16x300x1_0_1 (after hostOps0 W (Proc.devRef .tc main_indices) : IVec S16x300 32) := by
  simp only [hostOps0]
  after_results_entrywise [cast_eq]
  try rfl

theorem s1_box : (after hostOps0_1 W (Proc.devRef .tc main_v5) : FVec Ideal S16x300x4 .f32) = take4 (W (Proc.devRef .tc main_v1)) (W (Proc.devRef .tc main_v4)) := by
  simp only [hostOps0_1]
  after_results_entrywise [cast_eq]
  try rfl

theorem s2_ix : (after hostOps0_2 W (Proc.devRef .tc main_v6) : IVec S16x300x1 32)
    = broadcastInDim S16x300x1 ![0, 1] bcast_S16x300_S16x300x1_0_1 (W (Proc.devRef .tc main_indices) : IVec S16x300 32) := by
  simp only [hostOps0_2]
  after_results_entrywise [cast_eq]
  try rfl

theorem s3_cls : (after hostOps0_3 W (Proc.devRef .tc main_v7) : FVec Ideal S16x300x80 .f32) = take80 (W (Proc.devRef .tc main_v2)) (W (Proc.devRef .tc main_v6)) := by
  simp only [hostOps0_3]
  after_results_entrywise [cast_eq]
  try rfl

theorem s4_max : (after hostOps0_4 W (Proc.devRef .tc main_v8) : FVec Ideal S16x300 .f32)
    = Host.reduce FloatOps.maximumf (W (Proc.devRef .tc main_v7) : FVec Ideal S16x300x80 .f32) (constant (F := Ideal) S_ .f32 0xFF800000#32) reducesTo_S16x300x80_S16x300_d2 h_S_ := by
  simp only [hostOps0_4]
  after_results_entrywise [cast_eq]
  try rfl

theorem s5_arg : (after hostOps0_5 W (Proc.devRef .tc main_v9) : IVec S16x300 32)
    = fun i => (Host.argReduce (reducer_argmax_f32_i32 (F := Ideal)) (W (Proc.devRef .tc main_v7) : FVec Ideal S16x300x80 .f32) (iotaInDim S16x300x80 32 2) (constant (F := Ideal) S_ .f32 0xFF800000#32) (constantI S_ 32 0#32) reducesTo_S16x300x80_S16x300_d2 h_S_ i).2 := by
  simp only [hostOps0_5]
  after_results_entrywise [cast_eq]
  try rfl

theorem s6_num : (after hostOps0_6 W (Proc.devRef .tc main_v10) : FVec Ideal S16x300 .f32) = (sitofp (F := Ideal) .f32 (W (Proc.devRef .tc main_v9) : IVec S16x300 32) : FVec Ideal S16x300 .f32) := by
  simp only [hostOps0_6]
  after_results_entrywise [cast_eq]
  try rfl

theorem s7_clip : (after hostOps0_7 W (Proc.devRef .tc main_v73) : FVec Ideal S16x300x300x2 .f32)
    = (maximumf (broadcastInDim S16x300x300x2 ![] bcast_S_S16x300x300x2 (W (Proc.devRef .tc main_cst_5) : FVec Ideal S_ .f32)) (W (Proc.devRef .tc main_v72) : FVec Ideal S16x300x300x2 .f32) : FVec Ideal S16x300x300x2 .f32) := by
  simp only [hostOps0_7]
  after_results_entrywise [cast_eq]
  try rfl

theorem s9_mask : (after hostOps0_9 W (Proc.devRef .tc main_v93) : IVec S16x300 1)
    = andi (W (Proc.devRef .tc main_v90_4)) (cmpf .ogt (W (Proc.devRef .tc main_v8) : FVec Ideal S16x300 .f32) (broadcastInDim S16x300 ![] bcast_S_S16x300 (constant (F := Ideal) S_ .f32 0x3A83126F#32))) := by
  simp only [hostOps0_9]
  after_results_entrywise [cast_eq]
  try rfl

theorem s9_zero : (after hostOps0_9 W (Proc.devRef .tc main_cst_10) : FVec Ideal S_ .f32) = constant (F := Ideal) S_ .f32 0x00000000#32 := by
  simp only [hostOps0_9]
  after_results_entrywise [cast_eq]
  try rfl

theorem s10_conf : (after hostOps0_10 W (Proc.devRef .tc main_v94) : FVec Ideal S16x300 .f32)
    = select (W (Proc.devRef .tc main_v93)) (W (Proc.devRef .tc main_v8)) (broadcastInDim S16x300 ![] bcast_S_S16x300 (W (Proc.devRef .tc main_cst_10) : FVec Ideal S_ .f32)) := by
  simp only [hostOps0_10]
  after_results_entrywise [cast_eq]
  try rfl

/-- Boxes, confidences and classes side by side. -/
def outCat (x : FVec Ideal S16x300x4 .f32) (y z : FVec Ideal S16x300 .f32) : FVec Ideal S16x300x6 .f32 :=
  concatenate S16x300x6 2 [⟨S16x300x4, x⟩, ⟨S16x300x1, broadcastInDim S16x300x1 ![0, 1] bcast_S16x300_S16x300x1_0_1 y⟩, ⟨S16x300x1, broadcastInDim S16x300x1 ![0, 1] bcast_S16x300_S16x300x1_0_1 z⟩] concatenates_S16x300x4_S16x300x1_S16x300x1_S16x300x6_d2

theorem s11_out : (after hostOps0_11 W (Proc.devRef .tc main_v97) : FVec Ideal S16x300x6 .f32)
    = outCat (W (Proc.devRef .tc main_v5)) (W (Proc.devRef .tc main_v94)) (W (Proc.devRef .tc main_v10)) := by
  simp only [hostOps0_11]
  after_results_entrywise [cast_eq]
  try rfl

theorem outCat_at (x : FVec Ideal S16x300x4 .f32) (y z : FVec Ideal S16x300 .f32) (b : Fin 16) (n : Fin 300) (a : Fin 6) : outCat x y z (ix3 b n a)
    = if h : a.val < 4 then x (ix3 b n ⟨a.val, h⟩) else if a.val = 4 then y (ix2 b n) else z (ix2 b n) := by
  unfold outCat
  pointwise
  refine dite_congr rfl (fun _ => rfl) fun h => ?_
  have e : a.val - 4 < 1 ↔ a.val = 4 := by omega
  by_cases h4 : a.val = 4
  · rw [dif_pos (e.mpr h4), if_pos h4]
  · rw [dif_neg (mt e.mp h4), if_neg h4]

/-- A column of the boxes. -/
def corner (op : FVec Ideal S16x300 .f32 → FVec Ideal S16x300 .f32 → FVec Ideal S16x300 .f32) (c w : FVec Ideal S16x300 .f32) : FVec Ideal S16x300 .f32 :=
  op c (mulf w (broadcastInDim S16x300 ![] bcast_S_S16x300 (constant (F := Ideal) S_ .f32 0x3F000000#32)))
def col0 (x : FVec Ideal S16x300x4 .f32) : FVec Ideal S16x300 .f32 := shapeCast S16x300 (extractStridedSlice S16x300x1 ![0, 0, 0] x slices_S16x300x4_S16x300x1_0_0_0) shapeCasts_S16x300x1_S16x300
def col1 (x : FVec Ideal S16x300x4 .f32) : FVec Ideal S16x300 .f32 := shapeCast S16x300 (extractStridedSlice S16x300x1 ![0, 0, 1] x slices_S16x300x4_S16x300x1_0_0_1) shapeCasts_S16x300x1_S16x300
def col2 (x : FVec Ideal S16x300x4 .f32) : FVec Ideal S16x300 .f32 := shapeCast S16x300 (extractStridedSlice S16x300x1 ![0, 0, 2] x slices_S16x300x4_S16x300x1_0_0_2) shapeCasts_S16x300x1_S16x300
def col3 (x : FVec Ideal S16x300x4 .f32) : FVec Ideal S16x300 .f32 := shapeCast S16x300 (extractStridedSlice S16x300x1 ![0, 0, 3] x slices_S16x300x4_S16x300x1_0_0_3) shapeCasts_S16x300x1_S16x300

/-- The boxes as corners. -/
def corners (x : FVec Ideal S16x300x4 .f32) : FVec Ideal S16x300x4 .f32 :=
  concatenate S16x300x4 2 [⟨S16x300x1, broadcastInDim S16x300x1 ![0, 1] bcast_S16x300_S16x300x1_0_1 (corner subf (col0 x) (col2 x))⟩,
    ⟨S16x300x1, broadcastInDim S16x300x1 ![0, 1] bcast_S16x300_S16x300x1_0_1 (corner subf (col1 x) (col3 x))⟩,
    ⟨S16x300x1, broadcastInDim S16x300x1 ![0, 1] bcast_S16x300_S16x300x1_0_1 (corner addf (col0 x) (col2 x))⟩,
    ⟨S16x300x1, broadcastInDim S16x300x1 ![0, 1] bcast_S16x300_S16x300x1_0_1 (corner addf (col1 x) (col3 x))⟩] concatenates_S16x300x1_S16x300x1_S16x300x1_S16x300x1_S16x300x4_d2

/-- The areas, of corners. -/
def areas (x : FVec Ideal S16x300x4 .f32) : FVec Ideal S16x300 .f32 := mulf (subf (col2 x) (col0 x)) (subf (col3 x) (col1 x))

/-- How far each two boxes overlap in each direction, of corners. -/
def reach (x : FVec Ideal S16x300x4 .f32) : FVec Ideal S16x300x300x2 .f32 :=
  subf (minimumf (broadcastInDim S16x300x300x2 ![0, 1, 2, 3] bcast_S16x300x1x2_S16x300x300x2_0_1_2_3 (broadcastInDim S16x300x1x2 ![0, 1, 3] bcast_S16x300x2_S16x300x1x2_0_1_3 (extractStridedSlice S16x300x2 ![0, 0, 2] x slices_S16x300x4_S16x300x2_0_0_2)))
      (broadcastInDim S16x300x300x2 ![0, 1, 2, 3] bcast_S16x1x300x2_S16x300x300x2_0_1_2_3 (broadcastInDim S16x1x300x2 ![0, 2, 3] bcast_S16x300x2_S16x1x300x2_0_2_3 (extractStridedSlice S16x300x2 ![0, 0, 2] x slices_S16x300x4_S16x300x2_0_0_2))))
    (maximumf (broadcastInDim S16x300x300x2 ![0, 1, 2, 3] bcast_S16x300x1x2_S16x300x300x2_0_1_2_3 (broadcastInDim S16x300x1x2 ![0, 1, 3] bcast_S16x300x2_S16x300x1x2_0_1_3 (extractStridedSlice S16x300x2 ![0, 0, 0] x slices_S16x300x4_S16x300x2_0_0_0)))
      (broadcastInDim S16x300x300x2 ![0, 1, 2, 3] bcast_S16x1x300x2_S16x300x300x2_0_1_2_3 (broadcastInDim S16x1x300x2 ![0, 2, 3] bcast_S16x300x2_S16x1x300x2_0_2_3 (extractStridedSlice S16x300x2 ![0, 0, 0] x slices_S16x300x4_S16x300x2_0_0_0))))

theorem s6_reach : (after hostOps0_6 W (Proc.devRef .tc main_v72) : FVec Ideal S16x300x300x2 .f32) = reach (corners (W (Proc.devRef .tc main_v5))) := by
  simp only [hostOps0_6]
  after_results_entrywise [cast_eq]
  try rfl
theorem s6_area0 : (after hostOps0_6 W (Proc.devRef .tc main_v46) : FVec Ideal S16x300 .f32) = areas (corners (W (Proc.devRef .tc main_v5))) := by
  simp only [hostOps0_6]
  after_results_entrywise [cast_eq]
  try rfl
theorem s6_area1 : (after hostOps0_6 W (Proc.devRef .tc main_v57) : FVec Ideal S16x300 .f32) = areas (corners (W (Proc.devRef .tc main_v5))) := by
  simp only [hostOps0_6]
  after_results_entrywise [cast_eq]
  try rfl
theorem s6_zero : (after hostOps0_6 W (Proc.devRef .tc main_cst_5) : FVec Ideal S_ .f32) = constant (F := Ideal) S_ .f32 0x00000000#32 := by
  simp only [hostOps0_6]
  after_results_entrywise [cast_eq]
  try rfl

/-- The overlap of each two boxes, of how far they overlap. -/
def common (r : FVec Ideal S16x300x300x2 .f32) : FVec Ideal S16x300x300 .f32 :=
  mulf (shapeCast S16x300x300 (extractStridedSlice S16x300x300x1 ![0, 0, 0, 0] r slices_S16x300x300x2_S16x300x300x1_0_0_0_0) shapeCasts_S16x300x300x1_S16x300x300)
    (shapeCast S16x300x300 (extractStridedSlice S16x300x300x1 ![0, 0, 0, 1] r slices_S16x300x300x2_S16x300x300x1_0_0_0_1) shapeCasts_S16x300x300x1_S16x300x300)
/-- The ratios, of how far the boxes overlap and of their areas. -/
def ratios (r : FVec Ideal S16x300x300x2 .f32) (u v : FVec Ideal S16x300 .f32) : FVec Ideal S16x300x300 .f32 :=
  Host.divf (common r) (addf (subf (addf (broadcastInDim S16x300x300 ![0, 1, 2] bcast_S16x300x1_S16x300x300_0_1_2 (broadcastInDim S16x300x1 ![0, 1] bcast_S16x300_S16x300x1_0_1 u))
    (broadcastInDim S16x300x300 ![0, 1, 2] bcast_S16x1x300_S16x300x300_0_1_2 (broadcastInDim S16x1x300 ![0, 2] bcast_S16x300_S16x1x300_0_2 v))) (common r))
    (broadcastInDim S16x300x300 ![] bcast_S_S16x300x300 (constant (F := Ideal) S_ .f32 0x33D6BF95#32)))

theorem s8_ratio : (after hostOps0_8 W (Proc.devRef .tc main_v90_0) : FVec Ideal S16x300x300 .f32)
    = ratios (W (Proc.devRef .tc main_v73)) (W (Proc.devRef .tc main_v46)) (W (Proc.devRef .tc main_v57)) := by
  simp only [hostOps0_8]
  after_results_entrywise [cast_eq]
  try rfl
theorem s8_ids : (after hostOps0_8 W (Proc.devRef .tc main_v90_1) : IVec S300 32) = iotaInDim S300 32 0 := by
  simp only [hostOps0_8]
  after_results_entrywise [cast_eq]
  try rfl
theorem s8_ctr : (after hostOps0_8 W (Proc.devRef .tc main_v90_3) : IVec S_ 32) = fun _ => BitVec.ofNat 32 0 := by
  simp only [hostOps0_8]
  after_results_entrywise [cast_eq]
  try rfl
theorem s8_keep (t : FVec Ideal S16x300x300 .f32) : (after hostOps0_8 W (Proc.devRef .tc main_v90_4) : IVec S16x300 1) = keepAt t 0 := by
  simp only [hostOps0_8]
  after_results_entrywise [cast_eq]
  try rfl

theorem corners_at (x : FVec Ideal S16x300x4 .f32) (b : Fin 16) (n : Fin 300) (j : Fin 4) : corners x (ix3 b n j)
    = (![lo (x (ix3 b n 0)) (x (ix3 b n 2)), lo (x (ix3 b n 1)) (x (ix3 b n 3)), hi (x (ix3 b n 0)) (x (ix3 b n 2)), hi (x (ix3 b n 1)) (x (ix3 b n 3))] : Fin 4 → EReal) j := by
  unfold corners corner col0 col1 col2 col3
  pointwise
  match j with
  | 0 => rfl
  | 1 => rfl
  | 2 => rfl
  | 3 => rfl

theorem areas_at (x : FVec Ideal S16x300x4 .f32) (b : Fin 16) (n : Fin 300) : areas x (ix2 b n) = (x (ix3 b n 2) - x (ix3 b n 0)) * (x (ix3 b n 3) - x (ix3 b n 1)) := by
  unfold areas col0 col1 col2 col3
  pointwise

theorem reach_at (x : FVec Ideal S16x300x4 .f32) (b : Fin 16) (i j : Fin 300) (d : Fin 2) : reach x (ix4 b i j d)
    = min (x (ix3 b i ⟨d.val + 2, by omega⟩)) (x (ix3 b j ⟨d.val + 2, by omega⟩)) - max (x (ix3 b i ⟨d.val, by omega⟩)) (x (ix3 b j ⟨d.val, by omega⟩)) := by
  unfold reach
  pointwise
  simp only [Nat.add_comm]

theorem ratios_at (r : FVec Ideal S16x300x300x2 .f32) (u v : FVec Ideal S16x300 .f32) (b : Fin 16) (i j : Fin 300) : ratios r u v (ix3 b i j)
    = Ideal.div (r (ix4 b i j 0) * r (ix4 b i j 1)) (u (ix2 b i) + v (ix2 b j) - r (ix4 b i j 0) * r (ix4 b i j 1) + Ideal.ofBits .f32 0x33D6BF95#32) := by
  unfold ratios common
  pointwise

end Cert.Proof
-- ==== Proof.KVal.lean ====
module

public import proofs.«01_k».proof.Proof.ColVal
@[expose] public section
set_option maxRecDepth 65536
noncomputable section
namespace Cert.Proof
open Idealize.ShloMosaic Idealize.SL.Sem Cert.KernelIdeal Cert.KernelIdeal.Gen

/-! # The kernel's result at one place -/

attribute [local irreducible] nmFix

theorem ofNat_val (b : Fin 16) : Fin.ofNat 16 b.val = b := Fin.ext (Nat.mod_eq_of_lt b.isLt)

/-- The scores copied are those of the batch entry. -/
theorem scores_at (A : FVec Ideal S16x264x128 .f32) (b : Fin 16) (r : Fin 264) (l : Fin 128) : scores A b.val (ix2 r l) = A (ix3 b r l) := by
  unfold scores k1_pay143
  pointwise
  rw [planeOf_at, ofNat_val]

variable (A C : FVec Ideal S16x264x128 .f32) (B : FVec Ideal S16x4x264x128 .f32) (b : Fin 16)

theorem sel_row (n : Fin 300) : (selSt A b.val).rT (ix2 0 (n.castLE (by decide))) = BitVec.ofNat 32 (row (scores A b.val) n.val).val := by
  unfold selSt
  exact (rT_at _ 300 le_rfl _).trans (if_pos n.isLt)
theorem sel_lan (n : Fin 300) : (selSt A b.val).cT (ix2 0 (n.castLE (by decide))) = BitVec.ofNat 32 (lan (scores A b.val) n.val).val := by
  unfold selSt
  exact (cT_at _ 300 le_rfl _).trans (if_pos n.isLt)
theorem sel_top (n : Fin 300) : (selSt A b.val).cf (ix2 0 (n.castLE (by decide))) = top (scores A b.val) n.val := by
  unfold selSt
  exact (cf_at _ 300 le_rfl _).trans (if_pos n.isLt)

/-- The boxes selected. -/
theorem colBox_at (n : Fin 300) (j : Fin 4) :
    colBox (selCols A C B b.val) (n.castLE (by decide)) j = B (ix4 b j (row (scores A b.val) n.val) (lan (scores A b.val) n.val)) := by
  have e : ∀ j : Fin 4, pick (F := Ideal) (some .fp32) (rsel (selSt A b.val).rT) (lane (selSt A b.val).cT) (shapeCast S264x128 (boxOf B (Fin.ofNat 16 b.val) j) shapeCasts_S1x1x264x128_S264x128) (ix2 (n.castLE (by decide)) 0)
      = B (ix4 b j (row (scores A b.val) n.val) (lan (scores A b.val) n.val)) := fun j => by
    rw [pick_at _ _ _ _ _ _ _ (sel_row A b n) (sel_lan A b n), box_cast, boxOf_at, ofNat_val]
  match j with
  | 0 => exact e 0
  | 1 => exact e 1
  | 2 => exact e 2
  | 3 => exact e 3

/-- The classes selected. -/
theorem colCl_at (n : Fin 300) : (selCols A C B b.val).cl (ix2 (n.castLE (by decide)) 0) = C (ix3 b (row (scores A b.val) n.val) (lan (scores A b.val) n.val)) := by
  refine (pick_at _ _ _ _ _ _ _ (sel_row A b n) (sel_lan A b n)).trans ?_
  pointwise
  rw [planeOf_at, ofNat_val]

/-- The scores selected. -/
theorem colCf_at (n : Fin 300) : (selCols A C B b.val).cf (ix2 (n.castLE (by decide)) 0) = top (scores A b.val) n.val :=
  (colF_at _ _).trans (sel_top A b n)

/-- One element of the kernel's result, from the boxes, scores and classes at the positions. -/
theorem outV_at {key cls : Fin 33600 → EReal} {box : Fin 33600 → Fin 4 → EReal} (hX : Holds (scores A b.val) key) (hk : ∀ p, 0 ≤ key p)
    (hB : ∀ (p : Fin 33600) (r : Fin 264) (l : Fin 128), 128 * r.val + l.val = p.val → ∀ j, B (ix4 b j r l) = box p j)
    (hC : ∀ (p : Fin 33600) (r : Fin 264) (l : Fin 128), 128 * r.val + l.val = p.val → C (ix3 b r l) = cls p) (k : Fin 300) (a : Fin 6) :
    outV A C B (ix3 b k a) = outSpec (fun n => box (qf hX hk n)) (fun n => key (qf hX hk n)) (fun n => cls (qf hX hk n)) k a := by
  have eb : ∀ n : Fin 300, colBox (selCols A C B b.val) (n.castLE (by decide)) = box (qf hX hk n) := fun n =>
    funext fun j => (colBox_at A C B b n j).trans (hB (qf hX hk n) _ _ rfl j)
  have es : ∀ n : Fin 300, (selCols A C B b.val).cf (ix2 (n.castLE (by decide)) 0) = key (qf hX hk n) := fun n =>
    (colCf_at A C B b n).trans (top_key hX hk n)
  have ec : ∀ n : Fin 300, (selCols A C B b.val).cl (ix2 (n.castLE (by decide)) 0) = cls (qf hX hk n) := fun n =>
    (colCl_at A C B b n).trans (hC (qf hX hk n) _ _ rfl)
  have en : ∀ n : Fin 300, nmFix (supp (selCols A C B b.val)) (n.castLE (by decide)) = nmFix (sup fun n => box (qf hX hk n)) n := fun n => by
    have e : supp (selCols A C B b.val) = sup (colBox (selCols A C B b.val)) := funext fun i => funext fun j => supp_at _ i j
    rw [e]
    refine nmFix_restrict (by decide) (sup_upper _) (sup_upper _) (fun i j => ?_) n
    unfold sup
    rw [eb i, eb j]
    rfl
  refine (outBlk_at (selCols A C B b.val) (nmFix (supp (selCols A C B b.val))) k a).trans ?_
  rw [eb k, es k, ec k, en k]
  rfl

end Cert.Proof
-- ==== Proof.Run.lean ====
module

public import proofs.«01_k».proof.Proof.Reg1
public import proofs.«01_k».proof.Proof.Gen.KernelIdeal.Regions
public import Idealize.ShloMosaic.Lib.Pipeline.RegionsLoop
public import Idealize.ShloMosaic.Lib.Pipeline.FrameSuffix
public import Idealize.ShloMosaic.Lib.Ring
public import Idealize.ShloMosaic.Lib.WordCmp
@[expose] public section
set_option maxRecDepth 65536
noncomputable section
namespace Cert.Proof
open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The kernel from launch to return -/

variable (m : (ℓ : Loc nD τ sig) → Buf (Elt Ideal) ℓ)

/-- The argument. -/
abbrev argRefs : List (Ref sig .tc) := [main_arg0]
/-- Loops may take any number of turns. -/
abbrev 𝒱₀ : Variants := Variants.nat

/-- The host stretches leave the argument. -/
theorem V5_args (c : Dev nD) : ∀ a ∈ argRefs, V5 m c (Proc.devRef .tc a) = m ((c : Thread nD τ).loc a) := by
  intro a ha
  obtain rfl : a = main_arg0 := by simpa using ha
  exact (V5_of m c main_arg0 (by decide)).trans <| (V4_of m c main_arg0 (by decide)).trans <| (V3_of m c main_arg0 (by decide)).trans <| (V2_of m c main_arg0 (by decide)).trans <| (V1_of m c main_arg0 (by decide)).trans rfl
/-- Buffers when the first call starts. -/
abbrev Y5 : Bufs := fun c b => V5 m c b
/-- Buffers after the first call: its arrays as it leaves them, the others as before. -/
def W6 (c : Dev nD) : Valuation τ sig (Elt Ideal) :=
  Pipeline.withArrays spec0 c (V5 m c) fun w => (dat0 (Y5 m) c).arrAt w (cfg0 (F := Ideal)).N
theorem W6_arr (c : Dev nD) (w : Fin (cfg0 (F := Ideal)).W) :
    W6 m c (Proc.devRef .tc (Pipeline.arrRef spec0 w)) = (dat0 (Y5 m) c).arrAt w (cfg0 (F := Ideal)).N := by
  unfold W6; exact Pipeline.withArrays_arr spec0 (launch0 (F := Ideal)).win.arr_inj c _ _ w
theorem W6_of_ne (c : Dev nD) (b : Ref sig .tc) (hb : ∀ w, Pipeline.arrRef spec0 w ≠ b) :
    W6 m c (Proc.devRef .tc b) = V5 m c (Proc.devRef .tc b) := by
  unfold W6; exact Pipeline.withArrays_of_ne spec0 c _ _ b hb
/-- Arrays the first call does not write stay. -/
theorem W6_of (c : Dev nD) (r : Ref sig .tc) (h : ∀ w : Fin (cfg0 (F := Ideal)).W, Pipeline.arrRef spec0 w = r → ((cfg0 (F := Ideal)).win w).isOut = false) :
    W6 m c (Proc.devRef .tc r) = V5 m c (Proc.devRef .tc r) := by
  by_cases hw : ∃ w : Fin (cfg0 (F := Ideal)).W, Pipeline.arrRef spec0 w = r
  · obtain ⟨w, rfl⟩ := hw
    exact (W6_arr m c w).trans (((dat0 (Y5 m) c).arrAt_in w (h w rfl) _).trans (A_eq0 (Y5 m) c w))
  · exact W6_of_ne m c r fun w e => hw ⟨w, e⟩
theorem argsIn0 : ∀ a ∈ argRefs, ∀ w : Fin (cfg0 (F := Ideal)).W, Pipeline.arrRef spec0 w = a → ((cfg0 (F := Ideal)).win w).isOut = false :=
  ListAll.forall_mem_of_all_decide (by decide +kernel)
theorem W6_args (c : Dev nD) : ∀ a ∈ argRefs, W6 m c (Proc.devRef .tc a) = m ((c : Thread nD τ).loc a) :=
  fun a ha => (W6_of m c a (argsIn0 a ha)).trans (V5_args m c a ha)
abbrev Y6 : Bufs := fun c b => W6 m c b
theorem hF0 (c : Dev nD) (w : Fin (cfg0 (F := Ideal)).W) : (dat0 (Y5 m) c).arrAt w (cfg0 (F := Ideal)).N = Y6 m c (Pipeline.arrRef spec0 w) :=
  (W6_arr m c w).symm
theorem hrest0 (c : Dev nD) : ∀ b, b ∉ Finset.univ.image (Pipeline.arrRef spec0) → Y6 m c b = Y5 m c b :=
  fun b hb => W6_of_ne m c b fun w e => hb (Finset.mem_image.mpr ⟨w, Finset.mem_univ _, e⟩)

/-- Buffers after the second call. -/
def W7 (c : Dev nD) : Valuation τ sig (Elt Ideal) :=
  Pipeline.withArrays spec1 c (W6 m c) fun w => (dat1 (Y6 m) c).arrAt w (cfg1 (F := Ideal)).N
theorem W7_arr (c : Dev nD) (w : Fin (cfg1 (F := Ideal)).W) :
    W7 m c (Proc.devRef .tc (Pipeline.arrRef spec1 w)) = (dat1 (Y6 m) c).arrAt w (cfg1 (F := Ideal)).N := by
  unfold W7; exact Pipeline.withArrays_arr spec1 (launch1 (F := Ideal)).win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
/-- Arrays the second call does not write stay. -/
theorem W7_of (c : Dev nD) (r : Ref sig .tc) (h : ∀ w : Fin (cfg1 (F := Ideal)).W, Pipeline.arrRef spec1 w = r → ((cfg1 (F := Ideal)).win w).isOut = false) :
    W7 m c (Proc.devRef .tc r) = W6 m c (Proc.devRef .tc r) := by
  by_cases hw : ∃ w : Fin (cfg1 (F := Ideal)).W, Pipeline.arrRef spec1 w = r
  · obtain ⟨w, rfl⟩ := hw
    exact (W7_arr m c w).trans (((dat1 (Y6 m) c).arrAt_in w (h w rfl) _).trans (A_eq1 (Y6 m) c w))
  · exact W7_of_ne m c r fun w e => hw ⟨w, e⟩
theorem argsIn1 : ∀ a ∈ argRefs, ∀ w : Fin (cfg1 (F := Ideal)).W, Pipeline.arrRef spec1 w = a → ((cfg1 (F := Ideal)).win w).isOut = false :=
  ListAll.forall_mem_of_all_decide (by decide +kernel)
theorem W7_args (c : Dev nD) : ∀ a ∈ argRefs, W7 m c (Proc.devRef .tc a) = m ((c : Thread nD τ).loc a) :=
  fun a ha => (W7_of m c a (argsIn1 a ha)).trans (W6_args m c a ha)
abbrev Y7 : Bufs := fun c b => W7 m c b
theorem hF1 (c : Dev nD) (w : Fin (cfg1 (F := Ideal)).W) : (dat1 (Y6 m) c).arrAt w (cfg1 (F := Ideal)).N = Y7 m c (Pipeline.arrRef spec1 w) :=
  (W7_arr m c w).symm
theorem hrest1 (c : Dev nD) : ∀ b, b ∉ Finset.univ.image (Pipeline.arrRef spec1) → Y7 m c b = Y6 m c b :=
  fun b hb => W7_of_ne m c b fun w e => hb (Finset.mem_image.mpr ⟨w, Finset.mem_univ _, e⟩)

theorem W7_main_arg0 (c : Dev nD) : W7 m c (Proc.devRef .tc main_arg0) = m ((c : Thread nD τ).loc main_arg0) :=
  W7_args m c main_arg0 (by decide)

/-- What each call keeps, from the buffers it finds. -/
def pdats : (p : Fin 2) → (c : Dev nD) → Dat τ (Elt Ideal) Unit ℕ UU ℕ (Pipeline.pin (pcfgs (F := Ideal)) adm p) c
  | ⟨0, _⟩ => fun c => dat0 (Y5 m) c
  | ⟨1, _⟩ => fun c => dat1 (Y6 m) c
abbrev L : GSem nD τ sig → Finset Unit := fun _ => ∅
abbrev lv : GSem nD τ sig → Unit → ℕ := fun _ _ => 0
/-- What rides beside the buffers. -/
abbrev R (c : Dev nD) : PP := iprop((∃ r, prngReg c r) ∗ ∃ W, owes (c : Thread nD τ) (0 : CellTallies nD τ sig Unit) W)
/-- A stretch of host operations as a segment. -/
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UU) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What is held at the end. -/
abbrev Tₙ (c : Dev nD) : PP := iprop(StableHlo.held (c : Thread nD τ) (Pipeline.ucRefs τ sig) (W7 m c) ∗ ∃ r, prngReg c r)

set_option backward.isDefEq.respectTransparency.types false in
/-- The first call as a segment. -/
def reg0 : Pipeline.RegionSeg (pcfgs (F := Ideal)) adm (pdats m) () defs₀ 𝒱₀ L lv 0 where
  win := (launch0 (F := Ideal)).win.to₀
  block_pos := (launch0 (F := Ideal)).block_pos
  stage_whole := (launch0 (F := Ideal)).stage_whole
  K := PEmpty
  osem k := k.elim
  ho := Pipeline.OwnSemFacts.none _
  hbody c := (body_obligation0 (Y5 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UU) (Lvl := ℕ) spec0 c (Y5 m c)
  hentry c := by
    rw [Pipeline.ownSems0_none]
    have hsplit := Pipeline.arrays_of_unscopedBufs (p := 0) (pcfgs (F := Ideal)) adm (pdats m) (launch0 (F := Ideal)).win (launch0 (F := Ideal)).arr_whole c
      ((pdats m 0 c).share_full fun _ => rfl) (Y5 m c) (A_eq0 (Y5 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UU) (Lvl := ℕ)
      (launch0 (F := Ideal)).win (launch0 (F := Ideal)).arr_whole c (pdats m) ((pdats m 0 c).share_full fun _ => rfl)
      (Y5 m c) (Y6 m c) ((pdats m 0 c).arrAt · (cfg0 (F := Ideal)).N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call as a segment. -/
def reg1 : Pipeline.RegionSeg (pcfgs (F := Ideal)) adm (pdats m) () defs₀ 𝒱₀ L lv 1 where
  win := (launch1 (F := Ideal)).win.to₀
  block_pos := (launch1 (F := Ideal)).block_pos
  stage_whole := (launch1 (F := Ideal)).stage_whole
  K := PEmpty
  osem k := k.elim
  ho := Pipeline.OwnSemFacts.none _
  hbody c := (body_obligation1 (Y6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UU) (Lvl := ℕ) spec1 c (Y6 m c)
  hentry c := by
    rw [Pipeline.ownSems0_none]
    have hsplit := Pipeline.arrays_of_unscopedBufs (p := 1) (pcfgs (F := Ideal)) adm (pdats m) (launch1 (F := Ideal)).win (launch1 (F := Ideal)).arr_whole c
      ((pdats m 1 c).share_full fun _ => rfl) (Y6 m c) (A_eq1 (Y6 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UU) (Lvl := ℕ)
      (launch1 (F := Ideal)).win (launch1 (F := Ideal)).arr_whole c (pdats m) ((pdats m 1 c).share_full fun _ => rfl)
      (Y6 m c) (Y7 m c) ((pdats m 1 c).arrAt · (cfg1 (F := Ideal)).N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program as segments: five host stretches and two calls. -/
abbrev segs : List (Pipeline.Seg (pcfgs (F := Ideal)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .region (reg0 m),
    .region (reg1 m) ]
theorem main_run (c : Dev nD) : main (F := Ideal) c = Pipeline.Seg.run (segs m) := (main_chain c).trans (by chain_rfl)

set_option backward.isDefEq.respectTransparency.types false in
/-- The whole kernel runs, leaves its argument as it was and its result as the second call leaves it. -/
theorem kernel_run (ρ : Dev nD → PrngReg) : θ_run defs (onTc (τ := τ) (main (F := Ideal))) ⟨m, fun _ => 0, ρ⟩ (fun r => (∀ c : Dev nD,
      r.2.mem ((c.tc : Thread nD τ).loc main_arg0) = m ((c.tc : Thread nD τ).loc main_arg0)
        ∧ r.2.mem ((c.tc : Thread nD τ).loc main_v7) = (dat1 (Y6 m) c).arrAt 3 (cfg1 (F := Ideal)).N)
      ∧ r.2.sem = fun _ => 0) :=
  Pipeline.θ_run_regions_kit_sems (pcfgs (F := Ideal)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (cfgs (F := Ideal)) cellOf_inj) (Pipeline.launchToks (cfgs (F := Ideal)) cellOf_inj))
    (hu₀ := by
      iintro Hu; imodintro
      isplitl [Hu]
      · iapply (show (ownU (initOf (Pipeline.cells (cfgs (F := Ideal)) cellOf_inj) (Pipeline.launchToks (cfgs (F := Ideal)) cellOf_inj)) : PP)
            ⊢ BI.own (emb₁ (initOf (Pipeline.cells (cfgs (F := Ideal)) cellOf_inj) (Pipeline.launchToks (cfgs (F := Ideal)) cellOf_inj))) from .rfl)
        iexact Hu
      iapply (show (BI.emp : PP) ⊢ bigSep Finset.univ (fun _ : Dev nD => (BI.emp : PP)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h hz => ⟨(fun c =>
      ⟨(h c _ (mem_uc main_arg0 (by decide))).trans (W7_main_arg0 m c), (h c _ (mem_uc main_v7 (by decide))).trans (W7_arr m c 3)⟩), funext fun g => hz g (.inr (regions_no_unscoped g.2))⟩)

end Cert.Proof
-- ==== Proof.Mem.lean ====
module

public import proofs.«01_k».proof.Proof.KVal
public import proofs.«01_k».proof.Proof.Run
public import Idealize.ShloMosaic.Lib.Pipeline.ValueKit
public import Idealize.ShloMosaic.Lib.StableHlo.RunRead
public import Idealize.ShloMosaic.Lib.StableHlo.RunClose
@[expose] public section
set_option maxRecDepth 65536
noncomputable section
namespace Cert.Proof
open Idealize.ShloMosaic Idealize.SL.Sem Cert.KernelIdeal Cert.KernelIdeal.Gen

/-! # The arrays the two calls leave -/

/-- The lowest marked lane of a line. -/
theorem minsi_line {n : ℕ} (hn : n < 2147483647) (p : Fin n → Prop) [DecidablePred p] (i : Fin n) (hi : p i) (hmin : ∀ j < i, ¬ p j) :
    Finset.fold IntOp.minsi (2147483647#32) (fun x : Fin n => if p x then BitVec.ofNat 32 x.val else 2147483647#32) Finset.univ = BitVec.ofNat 32 i.val := by
  rw [← Finset.map_univ_equiv (Equiv.uniqueProd (Fin n) (Fin 1)), Finset.fold_map]
  exact minsi_first hn p i hi hmin

theorem pay3_at (x : FVec Ideal S1x80x264x128 .f32) (r : Fin 264) (l : Fin 128) :
    (k0_pay3 x : FVec Ideal S1x264x128 .f32) (ix3 0 r l) = x (ix4 0 (fmax fun c : Fin 80 => x (ix4 0 c r l)) r l) := by
  unfold k0_pay3 k0_pay2 k0_pay1
  pointwise
  rw [ninf_f32]
  exact foldmax_line fun c : Fin 80 => x (ix4 0 c r l)
theorem pay4_at (x : FVec Ideal S1x80x264x128 .f32) (r : Fin 264) (l : Fin 128) :
    (k0_pay4 x : FVec Ideal S1x264x128 .f32) (ix3 0 r l) = FloatOps.sitofp (F := Ideal) .f32 (BitVec.ofNat 32 (fmax fun c : Fin 80 => x (ix4 0 c r l)).val) := by
  unfold k0_pay4 k0_pay2 k0_pay1
  pointwise
  rw [ninf_f32, foldmax_line fun c : Fin 80 => x (ix4 0 c r l)]
  exact congrArg _ (minsi_line (by decide) (fun c : Fin 80 => x (ix4 0 c r l) = x (ix4 0 (fmax fun c : Fin 80 => x (ix4 0 c r l)) r l)) _ rfl
    fun j hj => ne_of_lt (lt_fmax (fun c : Fin 80 => x (ix4 0 c r l)) j hj))

variable (V : Bufs)

theorem idx0_0 : ∀ t : Fin (cfg0 (F := Ideal)).N, win0_0.index t = ![(grid0.coords t 0).val, 0, 0, 0] := by decide +kernel
theorem idx0_1 : ∀ t : Fin (cfg0 (F := Ideal)).N, win0_1.index t = ![(grid0.coords t 0).val, 0, 0] := by decide +kernel
theorem idx0_2 : ∀ t : Fin (cfg0 (F := Ideal)).N, win0_2.index t = ![(grid0.coords t 0).val, 0, 0] := by decide +kernel

/-- The scores the first call reads. -/
abbrev raws (c : Dev nD) : FVec Ideal S16x80x264x128 .f32 := V c main_v5
/-- The class of the greatest score. -/
def best (x : FVec Ideal S16x80x264x128 .f32) (b : Fin 16) (r : Fin 264) (l : Fin 128) : Fin 80 := fmax fun k : Fin 80 => x (ix4 b k r l)
/-- The class maxima. -/
def maxPl (x : FVec Ideal S16x80x264x128 .f32) : FVec Ideal S16x264x128 .f32 := fun i => x (ix4 (i 0) (best x (i 0) (i 1) (i 2)) (i 1) (i 2))
/-- The class indices. -/
def clsPl (x : FVec Ideal S16x80x264x128 .f32) : FVec Ideal S16x264x128 .f32 := fun i => FloatOps.sitofp (F := Ideal) .f32 (BitVec.ofNat 32 (best x (i 0) (i 1) (i 2)).val)

theorem blk0_at (c : Dev nD) (t : Fin (cfg0 (F := Ideal)).N) (k : Fin 80) (r : Fin 264) (l : Fin 128) :
    (View.read (Elt Ideal) (((cfg0 (F := Ideal)).win 0).blk t).view (V c (Pipeline.arrRef spec0 0)) : FVec Ideal S1x80x264x128 .f32) (ix4 0 k r l) = raws V c (ix4 (grid0.coords t 0) k r l) := by
  refine congrArg (raws V c) ?_
  blk_ext [idx0_0]

theorem idx_one (y : S1x264x128.Idx) : ∃ (r : Fin 264) (l : Fin 128), y = ix3 0 r l := by
  refine ⟨y 1, y 2, funext fun a => ?_⟩
  match a with
  | 0 => exact Fin.ext (Nat.lt_one_iff.mp (y 0).isLt)
  | 1 => rfl
  | 2 => rfl

theorem pay3_blk {x : FVec Ideal S1x80x264x128 .f32} {X : FVec Ideal S16x80x264x128 .f32} {b : Fin 16} (h : ∀ k r l, x (ix4 0 k r l) = X (ix4 b k r l)) (y : S1x264x128.Idx) :
    (k0_pay3 x : FVec Ideal S1x264x128 .f32) y = maxPl X (ix3 b (y 1) (y 2)) := by
  obtain ⟨r, l, rfl⟩ := idx_one y
  rw [pay3_at, h]
  simp only [h]
  rfl
theorem pay4_blk {x : FVec Ideal S1x80x264x128 .f32} {X : FVec Ideal S16x80x264x128 .f32} {b : Fin 16} (h : ∀ k r l, x (ix4 0 k r l) = X (ix4 b k r l)) (y : S1x264x128.Idx) :
    (k0_pay4 x : FVec Ideal S1x264x128 .f32) y = clsPl X (ix3 b (y 1) (y 2)) := by
  obtain ⟨r, l, rfl⟩ := idx_one y
  rw [pay4_at]
  simp only [h]
  rfl

/-- The first call leaves the class maxima. -/
theorem final0_1 (c : Dev nD) : (dat0 V c).arrAt 1 (cfg0 (F := Ideal)).N = maxPl (raws V c) := by
  refine (dat0 V c).arrAt_eq_of_covers 1 _ (by decide +kernel) fun t hf y => ?_
  blk_simp
  rw [after0_1]
  unfold out0_1
  frame_out
  blk_simp [iblk0]
  have e : (win0_1.blk t).view.emb y = ix3 (n0 := 16) (grid0.coords t 0) (y 1) (y 2) := by
    idx_bounds y
    blk_ext [idx0_1]
  rw [e]
  exact pay3_blk (blk0_at V c t) y
/-- The first call leaves the class indices. -/
theorem final0_2 (c : Dev nD) : (dat0 V c).arrAt 2 (cfg0 (F := Ideal)).N = clsPl (raws V c) := by
  refine (dat0 V c).arrAt_eq_of_covers 2 _ (by decide +kernel) fun t hf y => ?_
  blk_simp
  rw [after0_2]
  unfold out0_2
  frame_out
  blk_simp [iblk0]
  have e : (win0_2.blk t).view.emb y = ix3 (n0 := 16) (grid0.coords t 0) (y 1) (y 2) := by
    idx_bounds y
    blk_ext [idx0_2]
  rw [e]
  exact pay4_blk (blk0_at V c t) y

theorem idx1_0 : ∀ t : Fin (cfg1 (F := Ideal)).N, win1_0.index t = ![0, 0, 0] := by decide +kernel
theorem idx1_1 : ∀ t : Fin (cfg1 (F := Ideal)).N, win1_1.index t = ![0, 0, 0] := by decide +kernel
theorem idx1_2 : ∀ t : Fin (cfg1 (F := Ideal)).N, win1_2.index t = ![0, 0, 0, 0] := by decide +kernel
theorem idx1_3 : ∀ t : Fin (cfg1 (F := Ideal)).N, win1_3.index t = ![0, 0, 0] := by decide +kernel
theorem whole1_0 (c : Dev nD) (t : Fin (cfg1 (F := Ideal)).N) :
    (View.read (Elt Ideal) (((cfg1 (F := Ideal)).win 0).blk t).view (V c (Pipeline.arrRef spec1 0)) : FVec Ideal S16x264x128 .f32) = V c main_v6_0 := by
  funext y
  refine congrArg (V c main_v6_0) ?_
  blk_ext [idx1_0]
theorem whole1_1 (c : Dev nD) (t : Fin (cfg1 (F := Ideal)).N) :
    (View.read (Elt Ideal) (((cfg1 (F := Ideal)).win 1).blk t).view (V c (Pipeline.arrRef spec1 1)) : FVec Ideal S16x264x128 .f32) = V c main_v6_1 := by
  funext y
  refine congrArg (V c main_v6_1) ?_
  blk_ext [idx1_1]
theorem whole1_2 (c : Dev nD) (t : Fin (cfg1 (F := Ideal)).N) :
    (View.read (Elt Ideal) (((cfg1 (F := Ideal)).win 2).blk t).view (V c (Pipeline.arrRef spec1 2)) : FVec Ideal S16x4x264x128 .f32) = V c main_v3 := by
  funext y
  refine congrArg (V c main_v3) ?_
  blk_ext [idx1_2]

/-- The second call leaves the result made of the three arrays. -/
theorem final1_3 (c : Dev nD) : (dat1 V c).arrAt 3 (cfg1 (F := Ideal)).N = outV (V c main_v6_0) (V c main_v6_1) (V c main_v3) := by
  refine (dat1 V c).arrAt_eq_of_covers 3 _ (by decide +kernel) fun t hf y => ?_
  blk_simp
  rw [after1_3]
  blk_simp [iblk1]
  have e : (win1_3.blk t).view.emb y = y := by
    blk_ext [idx1_3]
  rw [e]
  exact congrFun (congr (congr (congrArg outV (whole1_0 V c t)) (whole1_1 V c t)) (whole1_2 V c t)) y

variable (m : (ℓ : Loc nD τ sig) → Buf (Elt Ideal) ℓ) (c : Dev nD)

theorem Y6_0 : Y6 m c main_v6_0 = maxPl (raws (Y5 m) c) := (W6_arr m c 1).trans (final0_1 (Y5 m) c)
theorem Y6_1 : Y6 m c main_v6_1 = clsPl (raws (Y5 m) c) := (W6_arr m c 2).trans (final0_2 (Y5 m) c)
theorem Y6_3 : Y6 m c main_v3 = Y5 m c main_v3 := W6_of m c main_v3 (by decide +kernel)

/-- The argument. -/
abbrev rawOf (m : (ℓ : Loc nD τ sig) → Buf (Elt Ideal) ℓ) (c : Dev nD) : FVec Ideal S16x84x33600 .f32 := m ((c.tc : Thread nD τ).loc main_arg0)

theorem r1 : V1 m c (Proc.devRef .tc main_v1) = extractStridedSlice S16x80x33600 ![0, 4, 0] (rawOf m c) slices_S16x84x33600_S16x80x33600_0_4_0 := by
  show StableHlo.after hostOps0 (V0 m c) (Proc.devRef .tc main_v1) = _
  simp only [hostOps0]
  after_results_entrywise [cast_eq]
  try rfl
theorem r0 : V1 m c (Proc.devRef .tc main_v0) = extractStridedSlice S16x4x33600 ![0, 0, 0] (rawOf m c) slices_S16x84x33600_S16x4x33600_0_0_0 := by
  show StableHlo.after hostOps0 (V0 m c) (Proc.devRef .tc main_v0) = _
  simp only [hostOps0]
  after_results_entrywise [cast_eq]
  try rfl
theorem rcst : V3 m c (Proc.devRef .tc main_cst) = constant (F := Ideal) S_ .f32 0xBF800000#32 := by
  show StableHlo.after hostOps0_2 (V2 m c) (Proc.devRef .tc main_cst) = _
  simp only [hostOps0_2]
  after_results_entrywise [cast_eq]
  try rfl
theorem r4 : V4 m c (Proc.devRef .tc main_v4) = pad S16x80x33792 ![0, 0, 0] ![0, 0, 192] ![0, 0, 0] (extractStridedSlice S16x80x33600 ![0, 4, 0] (rawOf m c) slices_S16x84x33600_S16x80x33600_0_4_0) (constant (F := Ideal) S_ .f32 0xBF800000#32) pads_S16x80x33600_S16x80x33792_000_000_01920 h_S_ := by
  have e1 := (V3_of m c main_v1 (by decide)).trans ((V2_of m c main_v1 (by decide)).trans (r1 m c))
  have e2 := rcst m c
  show StableHlo.after hostOps0_3 (V3 m c) (Proc.devRef .tc main_v4) = _
  rw [← e1, ← e2]
  generalize V3 m c = W
  simp only [hostOps0_3]
  after_results_entrywise [cast_eq]
  try rfl
theorem r2 : V2 m c (Proc.devRef .tc main_v2) = pad S16x4x33792 ![0, 0, 0] ![0, 0, 192] ![0, 0, 0] (extractStridedSlice S16x4x33600 ![0, 0, 0] (rawOf m c) slices_S16x84x33600_S16x4x33600_0_0_0) (sitofp (F := Ideal) .f32 (V1 m c (Proc.devRef .tc main_c) : IVec S_ 32)) pads_S16x4x33600_S16x4x33792_000_000_01920 h_S_ := by
  have e1 := r0 m c
  show StableHlo.after hostOps0_1 (V1 m c) (Proc.devRef .tc main_v2) = _
  rw [← e1]
  generalize V1 m c = W
  simp only [hostOps0_1]
  after_results_entrywise [cast_eq]
  try rfl

theorem v5_at (b : Fin 16) (k : Fin 80) (r : Fin 264) (l : Fin 128) : raws (Y5 m) c (ix4 b k r l) =
    if h : 128 * r.val + l.val < 33600 then rawOf m c (ix3 b ⟨k.val + 4, by omega⟩ ⟨128 * r.val + l.val, h⟩) else Ideal.ofBits .f32 0xBF800000#32 := by
  have e : raws (Y5 m) c = shapeCast S16x80x264x128 (V4 m c (Proc.devRef .tc main_v4) : FVec Ideal S16x80x33792 .f32) shapeCasts_S16x80x33792_S16x80x264x128 := by
    show StableHlo.after hostOps0_4 (V4 m c) (Proc.devRef .tc main_v5) = _
    generalize V4 m c = W
    simp only [hostOps0_4]
    after_results_entrywise [cast_eq]
    try rfl
  rw [e, r4]
  pointwise
  simp only [Nat.mul_comm r.val 128, Nat.add_comm 4 k.val]
theorem v3_at (b : Fin 16) (k : Fin 4) (r : Fin 264) (l : Fin 128) (h : 128 * r.val + l.val < 33600) : (Y5 m c main_v3 : FVec Ideal S16x4x264x128 .f32) (ix4 b k r l) =
    rawOf m c (ix3 b ⟨k.val, by omega⟩ ⟨128 * r.val + l.val, h⟩) := by
  have e : Y5 m c main_v3 = shapeCast S16x4x264x128 (V2 m c (Proc.devRef .tc main_v2) : FVec Ideal S16x4x33792 .f32) shapeCasts_S16x4x33792_S16x4x264x128 := by
    show V5 m c (Proc.devRef .tc main_v3) = _
    rw [V5_of m c main_v3 (by decide), V4_of m c main_v3 (by decide)]
    show StableHlo.after hostOps0_2 (V2 m c) (Proc.devRef .tc main_v3) = _
    generalize V2 m c = W
    simp only [hostOps0_2]
    after_results_entrywise [cast_eq]
    try rfl
  rw [e, r2]
  pointwise
  simp only [Nat.mul_comm r.val 128]
  rw [dif_pos h]

/-! ## The kernel's result from the argument -/

/-- The class of greatest score at a position. -/
def clsOf (x : FVec Ideal S16x84x33600 .f32) (b : Fin 16) (p : Fin 33600) : Fin 80 := fmax fun k : Fin 80 => x (ix3 b ⟨k.val + 4, by omega⟩ p)
/-- The greatest class score at a position. -/
def keyOf (x : FVec Ideal S16x84x33600 .f32) (b : Fin 16) (p : Fin 33600) : EReal := x (ix3 b ⟨(clsOf x b p).val + 4, by omega⟩ p)
/-- The box at a position. -/
def boxAt (x : FVec Ideal S16x84x33600 .f32) (b : Fin 16) (p : Fin 33600) (j : Fin 4) : EReal := x (ix3 b ⟨j.val, by omega⟩ p)
/-- The three hundred positions of greatest score, in order. -/
def pos (x : FVec Ideal S16x84x33600 .f32) (b : Fin 16) (n : Fin 300) : Fin 33600 := sortedFrom (before (keyOf x b)) (n.castLE (by decide))
/-- The result both programs compute. -/
def goal (x : FVec Ideal S16x84x33600 .f32) (b : Fin 16) (k : Fin 300) (a : Fin 6) : EReal :=
  outSpec (fun n => boxAt x b (pos x b n)) (fun n => keyOf x b (pos x b n)) (fun n => FloatOps.sitofp (F := Ideal) .f32 (BitVec.ofNat 32 (clsOf x b (pos x b n)).val)) k a

theorem best_in (b : Fin 16) (r : Fin 264) (l : Fin 128) (h : 128 * r.val + l.val < 33600) :
    best (raws (Y5 m) c) b r l = clsOf (rawOf m c) b ⟨128 * r.val + l.val, h⟩ := by
  unfold best clsOf
  refine congrArg fmax (funext fun k => ?_)
  rw [v5_at, dif_pos h]

theorem holds_key (b : Fin 16) : Holds (scores (maxPl (raws (Y5 m) c)) b.val) (keyOf (rawOf m c) b) := by
  refine ⟨_, fill_neg, fun r l => ?_⟩
  rw [scores_at]
  show raws (Y5 m) c (ix4 b (best (raws (Y5 m) c) b r l) r l) = _
  rw [v5_at]
  by_cases h : 128 * r.val + l.val < 33600
  · simp only [dif_pos h, best_in m c b r l h]
    rfl
  · rw [dif_neg h, dif_neg h]

/-- What the kernel leaves, element by element. -/
theorem kernel_at (hpos : ∀ b p (k : Fin 80), 0 ≤ rawOf m c (ix3 b ⟨k.val + 4, by omega⟩ p)) (b : Fin 16) (k : Fin 300) (a : Fin 6) :
    ((dat1 (Y6 m) c).arrAt 3 (cfg1 (F := Ideal)).N : FVec Ideal S16x300x6 .f32) (ix3 b k a) = goal (rawOf m c) b k a := by
  rw [final1_3, Y6_0, Y6_1, Y6_3]
  have hk : ∀ p, 0 ≤ keyOf (rawOf m c) b p := fun p => hpos b p _
  refine (outV_at (maxPl (raws (Y5 m) c)) (clsPl (raws (Y5 m) c)) (Y5 m c main_v3) b (holds_key m c b) hk (box := boxAt (rawOf m c) b)
    (cls := fun p => FloatOps.sitofp (F := Ideal) .f32 (BitVec.ofNat 32 (clsOf (rawOf m c) b p).val)) (fun p r l h j => ?_) (fun p r l h => ?_) k a).trans ?_
  · have h' : 128 * r.val + l.val < 33600 := h ▸ p.isLt
    rw [v3_at m c b j r l h']
    exact congrArg (fun q => boxAt (rawOf m c) b q j) (Fin.ext h)
  · have h' : 128 * r.val + l.val < 33600 := h ▸ p.isLt
    show FloatOps.sitofp (F := Ideal) .f32 (BitVec.ofNat 32 (best (raws (Y5 m) c) b r l).val) = _
    rw [best_in m c b r l h', show (⟨128 * r.val + l.val, h'⟩ : Fin 33600) = p from Fin.ext h]
  · have e : qf (holds_key m c b) hk = pos (rawOf m c) b := funext fun n => (sorted_qf (holds_key m c b) hk n).symm
    rw [e]
    rfl

end Cert.Proof
-- ==== Proof.RefAt.lean ====
module

public import proofs.«01_k».proof.Proof.RefVal
public import proofs.«01_k».proof.Proof.Mem
@[expose] public section
set_option maxRecDepth 65536
noncomputable section
namespace Cert.Proof
open Idealize.ShloMosaic Idealize.ShloMosaic.TcCoe Idealize.ShloMosaic.StableHlo Idealize.SL.Sem Cert.ReferenceIdeal Cert.ReferenceIdeal.Gen Cert.ReferenceIdeal.Value

/-! # What the reference computes -/

variable (m : (ℓ : Loc nD τ sig) → Buf (Elt Ideal) ℓ) (c : Dev nD)

/-- The contents of memory before each stretch of the reference. -/
def R1 : Valuation τ sig (Elt Ideal) := after hostOps0 (launchContents m c)
def R2 : Valuation τ sig (Elt Ideal) := after hostOps0_1 (R1 m c)
def R3 : Valuation τ sig (Elt Ideal) := after hostOps0_2 (R2 m c)
def R4 : Valuation τ sig (Elt Ideal) := after hostOps0_3 (R3 m c)
def R5 : Valuation τ sig (Elt Ideal) := after hostOps0_4 (R4 m c)
def R6 : Valuation τ sig (Elt Ideal) := after hostOps0_5 (R5 m c)
def R7 : Valuation τ sig (Elt Ideal) := after hostOps0_6 (R6 m c)
def R8 : Valuation τ sig (Elt Ideal) := after hostOps0_7 (R7 m c)
def R9 : Valuation τ sig (Elt Ideal) := after hostOps0_8 (R8 m c)

theorem entry_eq : entryContents (F := Ideal) preI m c = R9 m c := rfl

/-- The reference's argument. -/
def argOf : FVec Ideal S16x84x33600 .f32 := m ((c : Thread nD τ).loc main_arg0)

theorem R2_of (r : Ref sig .tc) (h : r ∉ hostOps0_1_W) : R2 m c (Proc.devRef .tc r) = R1 m c (Proc.devRef .tc r) := after_of_writes_sub (hostOps0_1 (F := Ideal)) _ hostOps0_1_writes h
theorem R3_of (r : Ref sig .tc) (h : r ∉ hostOps0_2_W) : R3 m c (Proc.devRef .tc r) = R2 m c (Proc.devRef .tc r) := after_of_writes_sub (hostOps0_2 (F := Ideal)) _ hostOps0_2_writes h
theorem R4_of (r : Ref sig .tc) (h : r ∉ hostOps0_3_W) : R4 m c (Proc.devRef .tc r) = R3 m c (Proc.devRef .tc r) := after_of_writes_sub (hostOps0_3 (F := Ideal)) _ hostOps0_3_writes h
theorem R5_of (r : Ref sig .tc) (h : r ∉ hostOps0_4_W) : R5 m c (Proc.devRef .tc r) = R4 m c (Proc.devRef .tc r) := after_of_writes_sub (hostOps0_4 (F := Ideal)) _ hostOps0_4_writes h
theorem R6_of (r : Ref sig .tc) (h : r ∉ hostOps0_5_W) : R6 m c (Proc.devRef .tc r) = R5 m c (Proc.devRef .tc r) := after_of_writes_sub (hostOps0_5 (F := Ideal)) _ hostOps0_5_writes h
theorem R7_of (r : Ref sig .tc) (h : r ∉ hostOps0_6_W) : R7 m c (Proc.devRef .tc r) = R6 m c (Proc.devRef .tc r) := after_of_writes_sub (hostOps0_6 (F := Ideal)) _ hostOps0_6_writes h
theorem R8_of (r : Ref sig .tc) (h : r ∉ hostOps0_7_W) : R8 m c (Proc.devRef .tc r) = R7 m c (Proc.devRef .tc r) := after_of_writes_sub (hostOps0_7 (F := Ideal)) _ hostOps0_7_writes h
theorem R9_of (r : Ref sig .tc) (h : r ∉ hostOps0_8_W) : R9 m c (Proc.devRef .tc r) = R8 m c (Proc.devRef .tc r) := after_of_writes_sub (hostOps0_8 (F := Ideal)) _ hostOps0_8_writes h

theorem key_at (x : FVec Ideal S16x84x33600 .f32) (b : Fin 16) (p : Fin 33600) :
    (Host.reduce FloatOps.maximumf (rawCls x) (constant (F := Ideal) S_ .f32 0xFF800000#32) reducesTo_S16x33600x80_S16x33600_d2 h_S_ : FVec Ideal S16x33600 .f32) (ix2 b p) = keyOf x b p := by
  pointwise
  rw [ninf_f32]
  simp only [rawCls_at]
  exact foldmax_line fun k : Fin 80 => x (ix3 b ⟨k.val + 4, by omega⟩ p)

theorem R1_cls : (R1 m c (Proc.devRef .tc main_v2) : FVec Ideal S16x33600x80 .f32) = rawCls (argOf m c) := s0_cls (launchContents m c)
theorem R1_box : (R1 m c (Proc.devRef .tc main_v1) : FVec Ideal S16x33600x4 .f32) = rawBox (argOf m c) := s0_box (launchContents m c)

theorem R1_top (b : Fin 16) (n : Fin 300) : (R1 m c (Proc.devRef .tc main_indices) : IVec S16x300 32) (ix2 b n) = BitVec.ofNat 32 (pos (argOf m c) b n).val := by
  have e := s0_top (launchContents m c)
  have e2 := s0_cls (launchContents m c)
  rw [e2] at e
  refine (congrFun e (ix2 b n)).trans ?_
  rw [topk_at]
  have h : (fun p : Fin 33600 => (Host.reduce FloatOps.maximumf (rawCls (launchContents m c (Proc.devRef .tc main_arg0))) (constant (F := Ideal) S_ .f32 0xFF800000#32) reducesTo_S16x33600x80_S16x33600_d2 h_S_ : FVec Ideal S16x33600 .f32) (ix2 b p)) = keyOf (argOf m c) b :=
    funext fun p => key_at (argOf m c) b p
  rw [h]
  rfl

theorem R1_ix (b : Fin 16) (n : Fin 300) : (R1 m c (Proc.devRef .tc main_v4) : IVec S16x300x1 32) (ix3 b n 0) = BitVec.ofNat 32 (pos (argOf m c) b n).val := by
  refine (congrFun (s0_ix (launchContents m c)) (ix3 b n 0)).trans ?_
  pointwise
  exact R1_top m c b n

theorem R2_box (b : Fin 16) (n : Fin 300) (j : Fin 4) : (R2 m c (Proc.devRef .tc main_v5) : FVec Ideal S16x300x4 .f32) (ix3 b n j) = boxAt (argOf m c) b (pos (argOf m c) b n) j := by
  refine (congrFun (s1_box (R1 m c)) (ix3 b n j)).trans ?_
  rw [take4_at _ _ b n _ (R1_ix m c b n), R1_box, rawBox_at]
  rfl

theorem R3_ix (b : Fin 16) (n : Fin 300) : (R3 m c (Proc.devRef .tc main_v6) : IVec S16x300x1 32) (ix3 b n 0) = BitVec.ofNat 32 (pos (argOf m c) b n).val := by
  refine (congrFun (s2_ix (R2 m c)) (ix3 b n 0)).trans ?_
  rw [R2_of m c main_indices (by decide)]
  pointwise
  exact R1_top m c b n

theorem R4_cls (b : Fin 16) (n : Fin 300) (k : Fin 80) : (R4 m c (Proc.devRef .tc main_v7) : FVec Ideal S16x300x80 .f32) (ix3 b n k) = argOf m c (ix3 b ⟨k.val + 4, by omega⟩ (pos (argOf m c) b n)) := by
  refine (congrFun (s3_cls (R3 m c)) (ix3 b n k)).trans ?_
  rw [take80_at _ _ b n _ (R3_ix m c b n), R3_of m c main_v2 (by decide), R2_of m c main_v2 (by decide), R1_cls, rawCls_at]

theorem R5_key (b : Fin 16) (n : Fin 300) : (R5 m c (Proc.devRef .tc main_v8) : FVec Ideal S16x300 .f32) (ix2 b n) = keyOf (argOf m c) b (pos (argOf m c) b n) := by
  refine (congrFun (s4_max (R4 m c)) (ix2 b n)).trans ?_
  pointwise
  rw [ninf_f32]
  refine (Finset.fold_congr fun k _ => R4_cls m c b n k).trans ?_
  exact foldmax_line fun k : Fin 80 => argOf m c (ix3 b ⟨k.val + 4, by omega⟩ (pos (argOf m c) b n))

theorem R6_cls (b : Fin 16) (n : Fin 300) : (R6 m c (Proc.devRef .tc main_v9) : IVec S16x300 32) (ix2 b n) = BitVec.ofNat 32 (clsOf (argOf m c) b (pos (argOf m c) b n)).val := by
  refine (congrFun (s5_arg (R5 m c)) (ix2 b n)).trans ?_
  refine (argmax_at _ b n).trans ?_
  rw [R5_of m c main_v7 (by decide)]
  exact congrArg (fun f => BitVec.ofNat 32 (fmax f).val) (funext fun k => R4_cls m c b n k)

theorem R7_num (b : Fin 16) (n : Fin 300) : (R7 m c (Proc.devRef .tc main_v10) : FVec Ideal S16x300 .f32) (ix2 b n)
    = FloatOps.sitofp (F := Ideal) .f32 (BitVec.ofNat 32 (clsOf (argOf m c) b (pos (argOf m c) b n)).val) := by
  refine (congrFun (s6_num (R6 m c)) (ix2 b n)).trans ?_
  exact congrArg (FloatOps.sitofp (F := Ideal) .f32) (R6_cls m c b n)

theorem R6_box (b : Fin 16) (n : Fin 300) (j : Fin 4) : (R6 m c (Proc.devRef .tc main_v5) : FVec Ideal S16x300x4 .f32) (ix3 b n j) = boxAt (argOf m c) b (pos (argOf m c) b n) j := by
  rw [R6_of m c main_v5 (by decide), R5_of m c main_v5 (by decide), R4_of m c main_v5 (by decide), R3_of m c main_v5 (by decide)]
  exact R2_box m c b n j

/-- The ratio of two boxes, from the boxes. -/
theorem iou_at (x : FVec Ideal S16x300x4 .f32) (b : Fin 16) (i j : Fin 300) :
    ratios (maximumf (broadcastInDim S16x300x300x2 ![] bcast_S_S16x300x300x2 (constant (F := Ideal) S_ .f32 0x00000000#32)) (reach (corners x))) (areas (corners x)) (areas (corners x)) (ix3 b i j)
      = iou (fun a => x (ix3 b i a)) (fun a => x (ix3 b j a)) := by
  have hz : ∀ d : Fin 2, (maximumf (broadcastInDim S16x300x300x2 ![] bcast_S_S16x300x300x2 (constant (F := Ideal) S_ .f32 0x00000000#32)) (reach (corners x)) : FVec Ideal S16x300x300x2 .f32) (ix4 b i j d)
      = max (reach (corners x) (ix4 b i j d)) 0 := fun d => by
    pointwise
    exact max_comm _ _
  rw [ratios_at, hz, hz, reach_at, reach_at, areas_at, areas_at]
  simp only [corners_at]
  rfl

theorem R9_ratio (b : Fin 16) (i j : Fin 300) : (R9 m c (Proc.devRef .tc main_v90_0) : FVec Ideal S16x300x300 .f32) (ix3 b i j)
    = iou (boxAt (argOf m c) b (pos (argOf m c) b i)) (boxAt (argOf m c) b (pos (argOf m c) b j)) := by
  refine (congrFun (s8_ratio (R8 m c)) (ix3 b i j)).trans ?_
  have e73 : (R8 m c (Proc.devRef .tc main_v73) : FVec Ideal S16x300x300x2 .f32) = maximumf (broadcastInDim S16x300x300x2 ![] bcast_S_S16x300x300x2 (constant (F := Ideal) S_ .f32 0x00000000#32)) (reach (corners (R6 m c (Proc.devRef .tc main_v5)))) := by
    refine (s7_clip (R7 m c)).trans ?_
    have e1 : (R7 m c (Proc.devRef .tc main_cst_5) : FVec Ideal S_ .f32) = constant (F := Ideal) S_ .f32 0x00000000#32 := s6_zero (R6 m c)
    have e2 : (R7 m c (Proc.devRef .tc main_v72) : FVec Ideal S16x300x300x2 .f32) = reach (corners (R6 m c (Proc.devRef .tc main_v5))) := s6_reach (R6 m c)
    rw [e1, e2]
  have e46 : (R8 m c (Proc.devRef .tc main_v46) : FVec Ideal S16x300 .f32) = areas (corners (R6 m c (Proc.devRef .tc main_v5))) :=
    (R8_of m c main_v46 (by decide)).trans (s6_area0 (R6 m c))
  have e57 : (R8 m c (Proc.devRef .tc main_v57) : FVec Ideal S16x300 .f32) = areas (corners (R6 m c (Proc.devRef .tc main_v5))) :=
    (R8_of m c main_v57 (by decide)).trans (s6_area1 (R6 m c))
  rw [e73, e46, e57, iou_at]
  exact congrArg₂ iou (funext fun a => R6_box m c b i a) (funext fun a => R6_box m c b j a)

/-! ## After the loop -/

/-- The square of ratios. -/
def ratioOf : FVec Ideal S16x300x300 .f32 := R9 m c (Proc.devRef .tc main_v90_0)

theorem step_turn (X : Valuation τ sig (Elt Ideal)) : (step_main_v90_4 (F := Ideal) X : IVec S16x300 1)
    = turn (X (Proc.devRef .tc main_v90_0)) (X (Proc.devRef .tc main_v90_1)) (X (Proc.devRef .tc main_v90_3)) (X (Proc.devRef .tc main_v90_4)) := rfl

theorem trips (k : ℕ) : let X := (STEP (F := Ideal))^[k] (R9 m c)
    (X (Proc.devRef .tc main_v90_0) : FVec Ideal S16x300x300 .f32) = ratioOf m c ∧ (X (Proc.devRef .tc main_v90_1) : IVec S300 32) = iotaInDim S300 32 0
      ∧ (X (Proc.devRef .tc main_v90_3) : IVec S_ 32) = (fun _ => BitVec.ofNat 32 k) ∧ (X (Proc.devRef .tc main_v90_4) : IVec S16x300 1) = keepAt (ratioOf m c) k := by
  induction k with
  | zero => exact ⟨rfl, s8_ids (R8 m c), s8_ctr (R8 m c), s8_keep (R8 m c) (ratioOf m c)⟩
  | succ k ih =>
    rw [Function.iterate_succ_apply']
    generalize (STEP (F := Ideal))^[k] (R9 m c) = X at ih ⊢
    obtain ⟨h0, h1, h3, h4⟩ := ih
    refine ⟨(STEP_main_v90_0 X).trans h0, (STEP_main_v90_1 X).trans h1, (STEP_main_v90_3 X).trans ?_, (STEP_main_v90_4 X).trans ?_⟩
    · unfold step_main_v90_3
      rw [h3]
      funext i
      exact (BitVec.ofNat_add k 1).symm
    · rw [step_turn, h0, h1, h3, h4]
      rfl

/-- The contents of memory after the loop. -/
def Q0 : Valuation τ sig (Elt Ideal) := after condOps (atK (F := Ideal) m 300 c)
def Q1 : Valuation τ sig (Elt Ideal) := after hostOps0_9 (Q0 m c)
def Q2 : Valuation τ sig (Elt Ideal) := after hostOps0_10 (Q1 m c)

theorem Q0_of (r : Ref sig .tc) (hc : r ∉ condOps_W) (h0 : r ∉ while0Ops0_W) (h1 : r ∉ while0Ops0_1_W) (h2 : r ∉ while0Ops0_2_W) (h3 : r ∉ while0Ops0_3_W) :
    Q0 m c (Proc.devRef .tc r) = R9 m c (Proc.devRef .tc r) :=
  (after_of_writes_sub (condOps (F := Ideal)) _ condOps_writes hc).trans (loop_keep m c r hc h0 h1 h2 h3 300)
theorem Q1_of (r : Ref sig .tc) (h : r ∉ hostOps0_9_W) : Q1 m c (Proc.devRef .tc r) = Q0 m c (Proc.devRef .tc r) := after_of_writes_sub (hostOps0_9 (F := Ideal)) _ hostOps0_9_writes h
theorem Q2_of (r : Ref sig .tc) (h : r ∉ hostOps0_10_W) : Q2 m c (Proc.devRef .tc r) = Q1 m c (Proc.devRef .tc r) := after_of_writes_sub (hostOps0_10 (F := Ideal)) _ hostOps0_10_writes h

theorem Q0_keep : (Q0 m c (Proc.devRef .tc main_v90_4) : IVec S16x300 1) = keepAt (ratioOf m c) 300 :=
  ((cond_keeps (F := Ideal) (atK (F := Ideal) m 300 c)) main_v90_4 (by decide)).trans ((atK_agree (F := Ideal) m c 300 main_v90_4 (by decide)).trans (trips m c 300).2.2.2)

theorem Q0_box (b : Fin 16) (n : Fin 300) (j : Fin 4) : (Q0 m c (Proc.devRef .tc main_v5) : FVec Ideal S16x300x4 .f32) (ix3 b n j) = boxAt (argOf m c) b (pos (argOf m c) b n) j := by
  rw [Q0_of m c main_v5 (by decide) (by decide) (by decide) (by decide) (by decide), R9_of m c main_v5 (by decide), R8_of m c main_v5 (by decide), R7_of m c main_v5 (by decide)]
  exact R6_box m c b n j

theorem Q0_key (b : Fin 16) (n : Fin 300) : (Q0 m c (Proc.devRef .tc main_v8) : FVec Ideal S16x300 .f32) (ix2 b n) = keyOf (argOf m c) b (pos (argOf m c) b n) := by
  rw [Q0_of m c main_v8 (by decide) (by decide) (by decide) (by decide) (by decide), R9_of m c main_v8 (by decide), R8_of m c main_v8 (by decide), R7_of m c main_v8 (by decide), R6_of m c main_v8 (by decide)]
  exact R5_key m c b n

theorem Q0_num (b : Fin 16) (n : Fin 300) : (Q0 m c (Proc.devRef .tc main_v10) : FVec Ideal S16x300 .f32) (ix2 b n)
    = FloatOps.sitofp (F := Ideal) .f32 (BitVec.ofNat 32 (clsOf (argOf m c) b (pos (argOf m c) b n)).val) := by
  rw [Q0_of m c main_v10 (by decide) (by decide) (by decide) (by decide) (by decide), R9_of m c main_v10 (by decide), R8_of m c main_v10 (by decide)]
  exact R7_num m c b n

theorem sup_eq (b : Fin 16) : supOf (ratioOf m c) b = sup fun n => boxAt (argOf m c) b (pos (argOf m c) b n) := by
  funext i j
  unfold supOf sup
  rw [show ratioOf m c (ix3 b i j) = _ from R9_ratio m c b i j]

theorem bit_and (k : BitVec 1) (p : Prop) [Decidable p] : IntOp.andi k (BitVec.ofBool (decide p)) = BitVec.ofBool (decide (k = 1#1 ∧ p)) := by
  by_cases h : p
  · rw [decide_eq_true h]
    revert k
    simp only [h, and_true]
    decide
  · rw [decide_eq_false h]
    revert k
    simp only [h, and_false]
    decide

theorem Q2_conf (b : Fin 16) (n : Fin 300) : (Q2 m c (Proc.devRef .tc main_v94) : FVec Ideal S16x300 .f32) (ix2 b n)
    = if nmFix (sup fun n => boxAt (argOf m c) b (pos (argOf m c) b n)) n = true ∧ Ideal.ofBits .f32 0x3A83126F#32 < keyOf (argOf m c) b (pos (argOf m c) b n)
      then keyOf (argOf m c) b (pos (argOf m c) b n) else 0 := by
  refine (congrFun (s10_conf (Q1 m c)) (ix2 b n)).trans ?_
  have e93 : (Q1 m c (Proc.devRef .tc main_v93) : IVec S16x300 1) = _ := s9_mask (Q0 m c)
  have e10 : (Q1 m c (Proc.devRef .tc main_cst_10) : FVec Ideal S_ .f32) = _ := s9_zero (Q0 m c)
  rw [e93, e10, Q1_of m c main_v8 (by decide), Q0_keep]
  pointwise
  rw [Q0_key, bit_and, sel_if]
  refine if_congr (and_congr ?_ Iff.rfl) rfl rfl
  rw [keepAt_fix, sup_eq]

/-- The reference's result. -/
theorem ref_at (b : Fin 16) (k : Fin 300) (a : Fin 6) :
    (finalContents (F := Ideal) condOps preI bodyI postI 300 m c (Proc.devRef .tc main_v97) : FVec Ideal S16x300x6 .f32) (ix3 b k a) = goal (argOf m c) b k a := by
  have e : (finalContents (F := Ideal) condOps preI bodyI postI 300 m c (Proc.devRef .tc main_v97) : FVec Ideal S16x300x6 .f32) = _ := s11_out (Q2 m c)
  rw [e, outCat_at]
  unfold goal outSpec
  rw [Q2_conf, Q2_of m c main_v5 (by decide), Q1_of m c main_v5 (by decide), Q2_of m c main_v10 (by decide), Q1_of m c main_v10 (by decide), Q0_num]
  exact dite_congr rfl (fun h => Q0_box m c b k ⟨a.val, h⟩) fun _ => rfl

end Cert.Proof
-- ==== Proof.lean ====
module

public import proofs.«01_k».proof.Defs
public import proofs.«01_k».proof.Proof.Pre
public import proofs.«01_k».proof.Proof.RefAt

@[expose] public section

noncomputable section

namespace Cert.Proof

open Idealize.ShloMosaic Idealize.SL.Sem

/-- An index of the result, by its three places. -/
theorem out_idx (i : Cert.KernelIdeal.S16x300x6.Idx) : ∃ (b : Fin 16) (k : Fin 300) (a : Fin 6), i = ix3 b k a := by
  refine ⟨i 0, i 1, i 2, funext fun e => ?_⟩
  match e with
  | 0 => rfl
  | 1 => rfl
  | 2 => rfl

/-- From the same argument the two programs compute the same result. -/
theorem same [Cert.Pre_nonneg_scores.Facts] (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hp : Pre_KernelIdeal_nonneg_scores m) (c : Dev Cert.KernelIdeal.nD)
    (e : argOf m' c = rawOf m c) :
    (StableHlo.finalContents (F := Ideal) Cert.ReferenceIdeal.Value.condOps Cert.ReferenceIdeal.Value.preI Cert.ReferenceIdeal.Value.bodyI Cert.ReferenceIdeal.Value.postI 300 m' c (Proc.devRef .tc Cert.ReferenceIdeal.main_v97) : FVec Ideal Cert.KernelIdeal.S16x300x6 .f32)
      = (dat1 (Y6 m) c).arrAt 3 (Cert.KernelIdeal.cfg1 (F := Ideal)).N := by
  funext i
  obtain ⟨b, k, a, rfl⟩ := out_idx i
  refine (ref_at m' c b k a).trans ?_
  rw [e]
  exact (kernel_at m c (fun b p k => pre_read (rawOf m c) (hp c) b p k) b k a).symm

theorem claim : Cert.Claim :=
  ⟨Cert.KernelIdeal.Gen.facts, Cert.ReferenceIdeal.Gen.facts, preFacts,
    fun m g _ => (θ_run _ _ _).mono (fun _ h => ⟨fun c => (h.1 c).1, h.2⟩) (kernel_run m g),
    fun m g _ => (θ_run _ _ _).mono (fun _ h => ⟨fun c => (h.1 c).1, h.2⟩) (kernel_run m g),
    fun m g _ => (θ_run _ _ _).mono (fun _ h => ⟨fun c => (h.1 c).1, h.2⟩) (ref_run m g),
    fun m g _ => (θ_run _ _ _).mono (fun _ h => ⟨fun c => (h.1 c).1, h.2⟩) (ref_run m g),
    fun m g m' g' hp he => by
      haveI := preFacts
      exact ⟨fun c => (dat1 (Y6 m) c).arrAt 3 (Cert.KernelIdeal.cfg1 (F := Ideal)).N,
        (θ_run _ _ _).mono (fun _ h c => ⟨(h.1 c).2, (h.1 c).1⟩) (kernel_run m g),
        (θ_run _ _ _).mono (fun _ h c => ⟨(h.1 c).2.trans (same m m' hp c (he c)), (h.1 c).1⟩) (ref_run m' g')⟩⟩

end Cert.Proof

end
